-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v45)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v45) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_v41) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_v31) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v41)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v41) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v52) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S16x2048x8x64 : Shape := ⟨4, ![16, 2048, 8, 64]⟩
abbrev S16x2048x2x64 : Shape := ⟨4, ![16, 2048, 2, 64]⟩
abbrev S8 : Shape := ⟨1, ![8]⟩
abbrev S_ : Shape := ⟨0, ![]⟩

class Facts : Prop where
  bcast_S_S16x2048x8x64 : S_.BroadcastsInDim S16x2048x8x64 (![] : Fin 0 → Fin S16x2048x8x64.rank)
  reducesTo_S16x2048x8x64_S_d0_1_2_3 : S16x2048x8x64.ReducesTo [0, 1, 2, 3] S_
  h_S_ : 0 < S_.numel
  bcast_S_S16x2048x2x64 : S_.BroadcastsInDim S16x2048x2x64 (![] : Fin 0 → Fin S16x2048x2x64.rank)
  reducesTo_S16x2048x2x64_S_d0_1_2_3 : S16x2048x2x64.ReducesTo [0, 1, 2, 3] S_
  bcast_S_S8 : S_.BroadcastsInDim S8 (![] : Fin 0 → Fin S8.rank)
  reducesTo_S8_S_d0 : S8.ReducesTo [0] S_

variable [Facts]

def fn {F : FTy → Type} [FloatOps F] (main_arg0 : FVec F S16x2048x8x64 .f32) (main_arg1 : FVec F S16x2048x2x64 .f32) (main_arg2 : FVec F S16x2048x2x64 .f32) (main_arg3 : FVec F S8 .f32) : IVec S_ 1 :=
  let main_v0 : FVec F S16x2048x8x64 .f32 := Host.absf main_arg0
  let main_cst : FVec F S_ .f32 := constant S_ .f32 0x7F800000#32
  let main_v1 : FVec F S16x2048x8x64 .f32 := broadcastInDim S16x2048x8x64 ![] bcast_S_S16x2048x8x64 main_cst
  let main_v2 : IVec S16x2048x8x64 1 := cmpf .olt main_v0 main_v1
  let main_c : IVec S_ 1 := constantI S_ 1 1#1
  let main_v3 : IVec S_ 1 := (fun x v => Host.reduce IntOp.andi x v reducesTo_S16x2048x8x64_S_d0_1_2_3 h_S_) main_v2 main_c
  let main_v4 : FVec F S16x2048x2x64 .f32 := Host.absf main_arg1
  let main_cst_0 : FVec F S_ .f32 := constant S_ .f32 0x7F800000#32
  let main_v5 : FVec F S16x2048x2x64 .f32 := broadcastInDim S16x2048x2x64 ![] bcast_S_S16x2048x2x64 main_cst_0
  let main_v6 : IVec S16x2048x2x64 1 := cmpf .olt main_v4 main_v5
  let main_c_1 : IVec S_ 1 := constantI S_ 1 1#1
  let main_v7 : IVec S_ 1 := (fun x v => Host.reduce IntOp.andi x v reducesTo_S16x2048x2x64_S_d0_1_2_3 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S16x2048x8x64 : Shape := ⟨4, ![16, 2048, 8, 64]⟩
abbrev S16x2048x2x64 : Shape := ⟨4, ![16, 2048, 2, 64]⟩
abbrev S8 : Shape := ⟨1, ![8]⟩
abbrev S_ : Shape := ⟨0, ![]⟩
abbrev S32768x3584 : Shape := ⟨2, ![32768, 3584]⟩
abbrev S32768x512 : Shape := ⟨2, ![32768, 512]⟩
abbrev S32768x128 : Shape := ⟨2, ![32768, 128]⟩
abbrev S32768x4352 : Shape := ⟨2, ![32768, 4352]⟩
abbrev S256x512 : Shape := ⟨2, ![256, 512]⟩
abbrev S128x256 : Shape := ⟨2, ![128, 256]⟩
abbrev S256x256 : Shape := ⟨2, ![256, 256]⟩
abbrev S512x256 : Shape := ⟨2, ![512, 256]⟩
abbrev S384x128 : Shape := ⟨2, ![384, 128]⟩
abbrev S384x512 : Shape := ⟨2, ![384, 512]⟩
abbrev S128x512 : Shape := ⟨2, ![128, 512]⟩
abbrev S384x256 : Shape := ⟨2, ![384, 256]⟩
abbrev S128x384 : Shape := ⟨2, ![128, 384]⟩
abbrev S384x64 : Shape := ⟨2, ![384, 64]⟩
abbrev S128x64 : Shape := ⟨2, ![128, 64]⟩
abbrev S512x64 : Shape := ⟨2, ![512, 64]⟩
abbrev S1 : Shape := ⟨1, ![1]⟩
abbrev S1x128 : Shape := ⟨2, ![1, 128]⟩
abbrev S1x512 : Shape := ⟨2, ![1, 512]⟩
abbrev S512 : Shape := ⟨1, ![512]⟩
abbrev S64x384 : Shape := ⟨2, ![64, 384]⟩
abbrev S64x512 : Shape := ⟨2, ![64, 512]⟩
abbrev S64x128 : Shape := ⟨2, ![64, 128]⟩
abbrev S128x128 : Shape := ⟨2, ![128, 128]⟩

abbrev nBuf : Space → Nat
  | .hbm => 11
  | .vmem => 10
  | .smem => 1
  | _ => 0

abbrev bufTy : (tb : Table) → Fin (tcTables nBuf tb) → BufTy
  | .hbm, ⟨0, _⟩ => ⟨S16x2048x8x64, .f32⟩
  | .hbm, ⟨1, _⟩ => ⟨S16x2048x2x64, .f32⟩
  | .hbm, ⟨2, _⟩ => ⟨S16x2048x2x64, .f32⟩
  | .hbm, ⟨3, _⟩ => ⟨S8, .f32⟩
  | .hbm, ⟨4, _⟩ => ⟨S_, .f32⟩
  | .hbm, ⟨5, _⟩ => ⟨S32768x3584, .f32⟩
  | .hbm, ⟨6, _⟩ => ⟨S32768x512, .f32⟩
  | .hbm, ⟨7, _⟩ => ⟨S32768x128, .f32⟩
  | .hbm, ⟨8, _⟩ => ⟨S32768x128, .f32⟩
  | .hbm, ⟨9, _⟩ => ⟨S32768x4352, .f32⟩
  | .hbm, ⟨10, _⟩ => ⟨S32768x512, .bf16⟩
  | .local _ .vmem, ⟨0, _⟩ => ⟨S256x512, .f32⟩
  | .local _ .vmem, ⟨1, _⟩ => ⟨S256x512, .f32⟩
  | .local _ .vmem, ⟨2, _⟩ => ⟨S128x256, .f32⟩
  | .local _ .vmem, ⟨3, _⟩ => ⟨S128x256, .f32⟩
  | .local _ .vmem, ⟨4, _⟩ => ⟨S256x256, .f32⟩
  | .local _ .vmem, ⟨5, _⟩ => ⟨S256x256, .f32⟩
  | .local _ .vmem, ⟨6, _⟩ => ⟨S128x256, .f32⟩
  | .local _ .vmem, ⟨7, _⟩ => ⟨S128x256, .f32⟩
  | .local _ .vmem, ⟨8, _⟩ => ⟨S256x512, .bf16⟩
  | .local _ .vmem, ⟨9, _⟩ => ⟨S256x512, .bf16⟩
  | .local _ .smem, ⟨0, _⟩ => ⟨S8, .f32⟩
  | _, _ => ⟨S16x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c7_i32 : BitVec 32 := 7#32
  let c0_i32 : BitVec 32 := 0#32
  ![v1.toNat, c7_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c2_i32 : BitVec 32 := 2#32
  let v1 : BitVec 32 := Scalar.muli arg1 c2_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c16_i32_0 : BitVec 32 := 16#32
  let c0_i32_1 : BitVec 32 := 0#32
  ![v4.toNat, c16_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c16_i32 : BitVec 32 := 16#32
  let c0_i32 : BitVec 32 := 0#32
  ![v1.toNat, c16_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c2_i32 : BitVec 32 := 2#32
  let v2 : BitVec 32 := Scalar.muli v1 c2_i32
  let c15_i32 : BitVec 32 := 15#32
  let v3 : BitVec 32 := Scalar.minsi v2 c15_i32
  let v4 : BitVec 32 := Scalar.addi v0 v3
  let c16_i32_0 : BitVec 32 := 16#32
  let c0_i32 : BitVec 32 := 0#32
  ![v4.toNat, c16_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x2048x8x64 : Shape := ⟨4, ![16, 2048, 8, 64]⟩
abbrev S16x2048x2x64 : Shape := ⟨4, ![16, 2048, 2, 64]⟩
abbrev S8 : Shape := ⟨1, ![8]⟩
abbrev S16x16x128x2x4x64 : Shape := ⟨6, ![16, 16, 128, 2, 4, 64]⟩
abbrev S_ : Shape := ⟨0, ![]⟩
abbrev S16x2304x2x64 : Shape := ⟨4, ![16, 2304, 2, 64]⟩
abbrev S16x18x128x2x64 : Shape := ⟨5, ![16, 18, 128, 2, 64]⟩
abbrev S16x16x128x2x64 : Shape := ⟨5, ![16, 16, 128, 2, 64]⟩
abbrev S16x16x384x2x64 : Shape := ⟨5, ![16, 16, 384, 2, 64]⟩
abbrev S16x16x2x384x128x4 : Shape := ⟨6, ![16, 16, 2, 384, 128, 4]⟩
abbrev S16x16x2x4x128x384 : Shape := ⟨6, ![16, 16, 2, 4, 128, 384]⟩
abbrev S16 : Shape := ⟨1, ![16]⟩
abbrev S16x1 : Shape := ⟨2, ![16, 1]⟩
abbrev S128 : Shape := ⟨1, ![128]⟩
abbrev S1x128 : Shape := ⟨2, ![1, 128]⟩
abbrev S16x128 : Shape := ⟨2, ![16, 128]⟩
abbrev S384 : Shape := ⟨1, ![384]⟩
abbrev S1x384 : Shape := ⟨2, ![1, 384]⟩
abbrev S16x384 : Shape := ⟨2, ![16, 384]⟩
abbrev S16x128x1 : Shape := ⟨3, ![16, 128, 1]⟩
abbrev S16x1x384 : Shape := ⟨3, ![16, 1, 384]⟩
abbrev S16x128x384 : Shape := ⟨3, ![16, 128, 384]⟩
abbrev S1x16x1x1x128x384 : Shape := ⟨6, ![1, 16, 1, 1, 128, 384]⟩
abbrev S2x4 : Shape := ⟨2, ![2, 4]⟩
abbrev S1x1x2x4x1x1 : Shape := ⟨6, ![1, 1, 2, 4, 1, 1]⟩
abbrev S16x16x2x4x128 : Shape := ⟨5, ![16, 16, 2, 4, 128]⟩
abbrev S16x16x2x4x128x1 : Shape := ⟨6, ![16, 16, 2, 4, 128, 1]⟩
abbrev S16x16x2x64x4x128 : Shape := ⟨6, ![16, 16, 2, 64, 4, 128]⟩
abbrev S32768x512 : Shape := ⟨2, ![32768, 512]⟩

abbrev nBuf : Space → Nat
  | .hbm => 97
  | .vmem => 0
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x2x64, .f32⟩
  | .hbm, ⟨2, _⟩ => ⟨S16x2048x2x64, .f32⟩
  | .hbm, ⟨3, _⟩ => ⟨S8, .f32⟩
  | .hbm, ⟨4, _⟩ => ⟨S16x16x128x2x4x64, .f32⟩
  | .hbm, ⟨5, _⟩ => ⟨S_, .i32⟩
  | .hbm, ⟨6, _⟩ => ⟨S_, .f32⟩
  | .hbm, ⟨7, _⟩ => ⟨S16x2304x2x64, .f32⟩
  | .hbm, ⟨8, _⟩ => ⟨S16x18x128x2x64, .f32⟩
  | .hbm, ⟨9, _⟩ => ⟨S16x16x128x2x64, .f32⟩
  | .hbm, ⟨10, _⟩ => ⟨S16x16x128x2x64, .f32⟩
  | .hbm, ⟨11, _⟩ => ⟨S16x16x128x2x64, .f32⟩
  | .hbm, ⟨12, _⟩ => ⟨S16x16x384x2x64, .f32⟩
  | .hbm, ⟨13, _⟩ => ⟨S_, .i32⟩
  | .hbm, ⟨14, _⟩ => ⟨S_, .f32⟩
  | .hbm, ⟨15, _⟩ => ⟨S16x2304x2x64, .f32⟩
  | .hbm, ⟨16, _⟩ => ⟨S16x18x128x2x64, .f32⟩
  | .hbm, ⟨17, _⟩ => ⟨S16x16x128x2x64, .f32⟩
  | .hbm, ⟨18, _⟩ => ⟨S16x16x128x2x64, .f32⟩
  | .hbm, ⟨19, _⟩ => ⟨S16x16x128x2x64, .f32⟩
  | .hbm, ⟨20, _⟩ => ⟨S16x16x384x2x64, .f32⟩
  | .hbm, ⟨21, _⟩ => ⟨S16x16x2x384x128x4, .f32⟩
  | .hbm, ⟨22, _⟩ => ⟨S16x16x2x4x128x384, .f32⟩
  | .hbm, ⟨23, _⟩ => ⟨S_, .f32⟩
  | .hbm, ⟨24, _⟩ => ⟨S16x16x2x4x128x384, .f32⟩
  | .hbm, ⟨25, _⟩ => ⟨S16x16x2x4x128x384, .f32⟩
  | .hbm, ⟨26, _⟩ => ⟨S16, .i32⟩
  | .hbm, ⟨27, _⟩ => ⟨S16x1, .i32⟩
  | .hbm, ⟨28, _⟩ => ⟨S_, .i32⟩
  | .hbm, ⟨29, _⟩ => ⟨S16x1, .i32⟩
  | .hbm, ⟨30, _⟩ => ⟨S16x1, .i32⟩
  | .hbm, ⟨31, _⟩ => ⟨S128, .i32⟩
  | .hbm, ⟨32, _⟩ => ⟨S1x128, .i32⟩
  | .hbm, ⟨33, _⟩ => ⟨S16x128, .i32⟩
  | .hbm, ⟨34, _⟩ => ⟨S16x128, .i32⟩
  | .hbm, ⟨35, _⟩ => ⟨S16x128, .i32⟩
  | .hbm, ⟨36, _⟩ => ⟨S_, .i32⟩
  | .hbm, ⟨37, _⟩ => ⟨S16x1, .i32⟩
  | .hbm, ⟨38, _⟩ => ⟨S16x1, .i32⟩
  | .hbm, ⟨39, _⟩ => ⟨S_, .i32⟩
  | .hbm, ⟨40, _⟩ => ⟨S16x1, .i32⟩
  | .hbm, ⟨41, _⟩ => ⟨S16x1, .i32⟩
  | .hbm, ⟨42, _⟩ => ⟨S384, .i32⟩
  | .hbm, ⟨43, _⟩ => ⟨S1x384, .i32⟩
  | .hbm, ⟨44, _⟩ => ⟨S16x384, .i32⟩
  | .hbm, ⟨45, _⟩ => ⟨S16x384, .i32⟩
  | .hbm, ⟨46, _⟩ => ⟨S16x384, .i32⟩
  | .hbm, ⟨47, _⟩ => ⟨S16x128x1, .i32⟩
  | .hbm, ⟨48, _⟩ => ⟨S16x1x384, .i32⟩
  | .hbm, ⟨49, _⟩ => ⟨S16x128x384, .i32⟩
  | .hbm, ⟨50, _⟩ => ⟨S16x128x384, .i32⟩
  | .hbm, ⟨51, _⟩ => ⟨S16x128x384, .i32⟩
  | .hbm, ⟨52, _⟩ => ⟨S16x128x384, .i32⟩
  | .hbm, ⟨53, _⟩ => ⟨S_, .i32⟩
  | .hbm, ⟨54, _⟩ => ⟨S16x128x384, .i32⟩
  | .hbm, ⟨55, _⟩ => ⟨S16x128x384, .i1⟩
  | .hbm, ⟨56, _⟩ => ⟨S16x1x384, .i32⟩
  | .hbm, ⟨57, _⟩ => ⟨S_, .i32⟩
  | .hbm, ⟨58, _⟩ => ⟨S16x1x384, .i32⟩
  | .hbm, ⟨59, _⟩ => ⟨S16x1x384, .i1⟩
  | .hbm, ⟨60, _⟩ => ⟨S16x128x384, .i1⟩
  | .hbm, ⟨61, _⟩ => ⟨S16x128x384, .i1⟩
  | .hbm, ⟨62, _⟩ => ⟨S16x1x384, .i32⟩
  | .hbm, ⟨63, _⟩ => ⟨S_, .i32⟩
  | .hbm, ⟨64, _⟩ => ⟨S16x1x384, .i32⟩
  | .hbm, ⟨65, _⟩ => ⟨S16x1x384, .i1⟩
  | .hbm, ⟨66, _⟩ => ⟨S16x128x384, .i1⟩
  | .hbm, ⟨67, _⟩ => ⟨S16x128x384, .i1⟩
  | .hbm, ⟨68, _⟩ => ⟨S1x16x1x1x128x384, .i1⟩
  | .hbm, ⟨69, _⟩ => ⟨S_, .f32⟩
  | .hbm, ⟨70, _⟩ => ⟨S_, .f32⟩
  | .hbm, ⟨71, _⟩ => ⟨S16x16x2x4x128x384, .i1⟩
  | .hbm, ⟨72, _⟩ => ⟨S16x16x2x4x128x384, .f32⟩
  | .hbm, ⟨73, _⟩ => ⟨S16x16x2x4x128x384, .f32⟩
  | .hbm, ⟨74, _⟩ => ⟨S2x4, .f32⟩
  | .hbm, ⟨75, _⟩ => ⟨S1x1x2x4x1x1, .f32⟩
  | .hbm, ⟨76, _⟩ => ⟨S_, .f32⟩
  | .hbm, ⟨77, _⟩ => ⟨S16x16x2x4x128, .f32⟩
  | .hbm, ⟨78, _⟩ => ⟨S16x16x2x4x128x1, .f32⟩
  | .hbm, ⟨79, _⟩ => ⟨S16x16x2x4x128x1, .f32⟩
  | .hbm, ⟨80, _⟩ => ⟨S16x16x2x4x128x1, .f32⟩
  | .hbm, ⟨81, _⟩ => ⟨S16x16x2x4x128x384, .f32⟩
  | .hbm, ⟨82, _⟩ => ⟨S16x16x2x4x128x384, .f32⟩
  | .hbm, ⟨83, _⟩ => ⟨S16x16x2x4x128x384, .f32⟩
  | .hbm, ⟨84, _⟩ => ⟨S_, .f32⟩
  | .hbm, ⟨85, _⟩ => ⟨S16x16x2x4x128, .f32⟩
  | .hbm, ⟨86, _⟩ => ⟨S16x16x2x4x128x1, .f32⟩
  | .hbm, ⟨87, _⟩ => ⟨S16x16x2x4x128x1, .f32⟩
  | .hbm, ⟨88, _⟩ => ⟨S16x16x2x4x128x1, .f32⟩
  | .hbm, ⟨89, _⟩ => ⟨S16x16x2x4x128x1, .f32⟩
  | .hbm, ⟨90, _⟩ => ⟨S16x16x2x4x128x1, .f32⟩
  | .hbm, ⟨91, _⟩ => ⟨S16x16x2x4x128x384, .f32⟩
  | .hbm, ⟨92, _⟩ => ⟨S16x16x2x4x128x384, .f32⟩
  | .hbm, ⟨93, _⟩ => ⟨S16x16x2x64x4x128, .f32⟩
  | .hbm, ⟨94, _⟩ => ⟨S16x16x128x2x4x64, .f32⟩
  | .hbm, ⟨95, _⟩ => ⟨S32768x512, .f32⟩
  | .hbm, ⟨96, _⟩ => ⟨S32768x512, .bf16⟩
  | _, _ => ⟨S16x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_v26 : Ref sig .tc := ⟨.hbm, 37, rfl⟩
abbrev main_v27 : Ref sig .tc := ⟨.hbm, 38, rfl⟩
abbrev main_c_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_8 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩

abbrev nD : Nat := 1
abbrev τ : Topo := Topo.v7x

variable {F : FTy → Type} [FloatOps F]
-- ==== Kernel2.lean ====
abbrev S16x2048x1024 : Shape := ⟨3, ![16, 2048, 1024]⟩
abbrev S16x2048 : Shape := ⟨2, ![16, 2048]⟩
abbrev S1024 : Shape := ⟨1, ![1024]⟩
abbrev S1024x4352 : Shape := ⟨2, ![1024, 4352]⟩
abbrev S8 : Shape := ⟨1, ![8]⟩
abbrev S_ : Shape := ⟨0, ![]⟩
abbrev S32768 : Shape := ⟨1, ![32768]⟩
abbrev S32768x1 : Shape := ⟨2, ![32768, 1]⟩
abbrev S1x8 : Shape := ⟨2, ![1, 8]⟩
abbrev S32768x8 : Shape := ⟨2, ![32768, 8]⟩
abbrev S32768x48 : Shape := ⟨2, ![32768, 48]⟩
abbrev S32768x64 : Shape := ⟨2, ![32768, 64]⟩
abbrev S1x32768x1x64 : Shape := ⟨4, ![1, 32768, 1, 64]⟩
abbrev S1x32768x2x64 : Shape := ⟨4, ![1, 32768, 2, 64]⟩
abbrev S32768x128 : Shape := ⟨2, ![32768, 128]⟩
abbrev S32768x1024 : Shape := ⟨2, ![32768, 1024]⟩
abbrev S1x1024 : Shape := ⟨2, ![1, 1024]⟩
abbrev S1024x512 : Shape := ⟨2, ![1024, 512]⟩
abbrev S1024x128 : Shape := ⟨2, ![1024, 128]⟩
abbrev S1024x1536 : Shape := ⟨2, ![1024, 1536]⟩
abbrev S1024x2048 : Shape := ⟨2, ![1024, 2048]⟩
abbrev S32768x4352 : Shape := ⟨2, ![32768, 4352]⟩
abbrev S512x1024 : Shape := ⟨2, ![512, 1024]⟩
abbrev S512x128 : Shape := ⟨2, ![512, 128]⟩
abbrev S512x4352 : Shape := ⟨2, ![512, 4352]⟩
abbrev S512 : Shape := ⟨1, ![512]⟩
abbrev S512x1 : Shape := ⟨2, ![512, 1]⟩
abbrev S1024x3584 : Shape := ⟨2, ![1024, 3584]⟩
abbrev S512x3584 : Shape := ⟨2, ![512, 3584]⟩
abbrev S1024x640 : Shape := ⟨2, ![1024, 640]⟩
abbrev S512x640 : Shape := ⟨2, ![512, 640]⟩

abbrev nBuf : Space → Nat
  | .hbm => 58
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .i32⟩
  | .hbm, ⟨2, _⟩ => ⟨S1024, .f32⟩
  | .hbm, ⟨3, _⟩ => ⟨S1024x4352, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S32768, .i32⟩
  | .hbm, ⟨19, _⟩ => ⟨S32768, .f32⟩
  | .hbm, ⟨20, _⟩ => ⟨S32768x1, .f32⟩
  | .hbm, ⟨21, _⟩ => ⟨S1x8, .f32⟩
  | .hbm, ⟨22, _⟩ => ⟨S32768x8, .f32⟩
  | .hbm, ⟨23, _⟩ => ⟨S32768x8, .f32⟩
  | .hbm, ⟨24, _⟩ => ⟨S32768x8, .f32⟩
  | .hbm, ⟨25, _⟩ => ⟨S32768x8, .f32⟩
  | .hbm, ⟨26, _⟩ => ⟨S32768x8, .f32⟩
  | .hbm, ⟨27, _⟩ => ⟨S_, .f32⟩
  | .hbm, ⟨28, _⟩ => ⟨S32768x8, .f32⟩
  | .hbm, ⟨29, _⟩ => ⟨S32768x8, .f32⟩
  | .hbm, ⟨30, _⟩ => ⟨S_, .f32⟩
  | .hbm, ⟨31, _⟩ => ⟨S32768x48, .f32⟩
  | .hbm, ⟨32, _⟩ => ⟨S32768x64, .f32⟩
  | .hbm, ⟨33, _⟩ => ⟨S1x32768x1x64, .f32⟩
  | .hbm, ⟨34, _⟩ => ⟨S1x32768x2x64, .f32⟩
  | .hbm, ⟨35, _⟩ => ⟨S32768x128, .f32⟩
  | .hbm, ⟨36, _⟩ => ⟨S_, .f32⟩
  | .hbm, ⟨37, _⟩ => ⟨S32768x48, .f32⟩
  | .hbm, ⟨38, _⟩ => ⟨S32768x64, .f32⟩
  | .hbm, ⟨39, _⟩ => ⟨S1x32768x1x64, .f32⟩
  | .hbm, ⟨40, _⟩ => ⟨S1x32768x2x64, .f32⟩
  | .hbm, ⟨41, _⟩ => ⟨S32768x128, .f32⟩
  | .hbm, ⟨42, _⟩ => ⟨S_, .f32⟩
  | .hbm, ⟨43, _⟩ => ⟨S32768x48, .f32⟩
  | .hbm, ⟨44, _⟩ => ⟨S32768x64, .f32⟩
  | .hbm, ⟨45, _⟩ => ⟨S1x32768x1x64, .f32⟩
  | .hbm, ⟨46, _⟩ => ⟨S1x32768x2x64, .f32⟩
  | .hbm, ⟨47, _⟩ => ⟨S32768x128, .f32⟩
  | .hbm, ⟨48, _⟩ => ⟨S32768x1024, .f32⟩
  | .hbm, ⟨49, _⟩ => ⟨S1x1024, .f32⟩
  | .hbm, ⟨50, _⟩ => ⟨S1024x512, .f32⟩
  | .hbm, ⟨51, _⟩ => ⟨S1024x128, .f32⟩
  | .hbm, ⟨52, _⟩ => ⟨S1024x128, .f32⟩
  | .hbm, ⟨53, _⟩ => ⟨S1024x1536, .f32⟩
  | .hbm, ⟨54, _⟩ => ⟨S1024x2048, .f32⟩
  | .hbm, ⟨55, _⟩ => ⟨S1024x4352, .f32⟩
  | .hbm, ⟨56, _⟩ => ⟨S1024x4352, .bf16⟩
  | .hbm, ⟨57, _⟩ => ⟨S32768x4352, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4352, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x4352, .f32⟩
  | .local _ .vmem, ⟨11, _⟩ => ⟨S512x4352, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4352 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16x2048x1024 : Shape := ⟨3, ![16, 2048, 1024]⟩
abbrev S16x2048 : Shape := ⟨2, ![16, 2048]⟩
abbrev S1024 : Shape := ⟨1, ![1024]⟩
abbrev S1024x4352 : Shape := ⟨2, ![1024, 4352]⟩
abbrev S8 : Shape := ⟨1, ![8]⟩
abbrev S_ : Shape := ⟨0, ![]⟩
abbrev S16x2048x1 : Shape := ⟨3, ![16, 2048, 1]⟩
abbrev S1x1x8 : Shape := ⟨3, ![1, 1, 8]⟩
abbrev S16x2048x8 : Shape := ⟨3, ![16, 2048, 8]⟩
abbrev S16x2048x1x8 : Shape := ⟨4, ![16, 2048, 1, 8]⟩
abbrev S1x1x1024 : Shape := ⟨3, ![1, 1, 1024]⟩
abbrev S16x2048x4352 : Shape := ⟨3, ![16, 2048, 4352]⟩
abbrev S16x2048x512 : Shape := ⟨3, ![16, 2048, 512]⟩
abbrev S16x2048x128 : Shape := ⟨3, ![16, 2048, 128]⟩
abbrev S16x2048x1536 : Shape := ⟨3, ![16, 2048, 1536]⟩
abbrev S16x2048x2048 : Shape := ⟨3, ![16, 2048, 2048]⟩
abbrev S16x2048x8x64 : Shape := ⟨4, ![16, 2048, 8, 64]⟩
abbrev S16x2048x8x8 : Shape := ⟨4, ![16, 2048, 8, 8]⟩
abbrev S16x2048x8x16 : Shape := ⟨4, ![16, 2048, 8, 16]⟩
abbrev S16x2048x8x48 : Shape := ⟨4, ![16, 2048, 8, 48]⟩
abbrev S16x2048x2x64 : Shape := ⟨4, ![16, 2048, 2, 64]⟩
abbrev S16x2048x2x8 : Shape := ⟨4, ![16, 2048, 2, 8]⟩
abbrev S16x2048x2x16 : Shape := ⟨4, ![16, 2048, 2, 16]⟩
abbrev S16x2048x2x48 : Shape := ⟨4, ![16, 2048, 2, 48]⟩
abbrev S32768x2048 : Shape := ⟨2, ![32768, 2048]⟩
abbrev S32768x1536 : Shape := ⟨2, ![32768, 1536]⟩
abbrev S32768x512 : Shape := ⟨2, ![32768, 512]⟩
abbrev S32768x128 : Shape := ⟨2, ![32768, 128]⟩
abbrev S32768x4352 : Shape := ⟨2, ![32768, 4352]⟩

abbrev nBuf : Space → Nat
  | .hbm => 88
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .i32⟩
  | .hbm, ⟨2, _⟩ => ⟨S1024, .f32⟩
  | .hbm, ⟨3, _⟩ => ⟨S1024x4352, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S16x2048, .f32⟩
  | .hbm, ⟨19, _⟩ => ⟨S16x2048x1, .f32⟩
  | .hbm, ⟨20, _⟩ => ⟨S1x1x8, .f32⟩
  | .hbm, ⟨21, _⟩ => ⟨S16x2048x8, .f32⟩
  | .hbm, ⟨22, _⟩ => ⟨S16x2048x8, .f32⟩
  | .hbm, ⟨23, _⟩ => ⟨S16x2048x8, .f32⟩
  | .hbm, ⟨24, _⟩ => ⟨S16x2048x8, .f32⟩
  | .hbm, ⟨25, _⟩ => ⟨S16x2048x1x8, .f32⟩
  | .hbm, ⟨26, _⟩ => ⟨S16x2048x8, .f32⟩
  | .hbm, ⟨27, _⟩ => ⟨S16x2048x1x8, .f32⟩
  | .hbm, ⟨28, _⟩ => ⟨S16x2048x1024, .f32⟩
  | .hbm, ⟨29, _⟩ => ⟨S_, .f32⟩
  | .hbm, ⟨30, _⟩ => ⟨S16x2048, .f32⟩
  | .hbm, ⟨31, _⟩ => ⟨S16x2048x1, .f32⟩
  | .hbm, ⟨32, _⟩ => ⟨S_, .f32⟩
  | .hbm, ⟨33, _⟩ => ⟨S16x2048x1, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S16x2048x1, .f32⟩
  | .hbm, ⟨39, _⟩ => ⟨S16x2048x1024, .f32⟩
  | .hbm, ⟨40, _⟩ => ⟨S16x2048x1024, .f32⟩
  | .hbm, ⟨41, _⟩ => ⟨S1x1x1024, .f32⟩
  | .hbm, ⟨42, _⟩ => ⟨S16x2048x1024, .f32⟩
  | .hbm, ⟨43, _⟩ => ⟨S16x2048x1024, .f32⟩
  | .hbm, ⟨44, _⟩ => ⟨S16x2048x4352, .f32⟩
  | .hbm, ⟨45, _⟩ => ⟨S16x2048x512, .f32⟩
  | .hbm, ⟨46, _⟩ => ⟨S16x2048x128, .f32⟩
  | .hbm, ⟨47, _⟩ => ⟨S16x2048x128, .f32⟩
  | .hbm, ⟨48, _⟩ => ⟨S16x2048x1536, .f32⟩
  | .hbm, ⟨49, _⟩ => ⟨S16x2048x2048, .f32⟩
  | .hbm, ⟨50, _⟩ => ⟨S16x2048x8x64, .f32⟩
  | .hbm, ⟨51, _⟩ => ⟨S16x2048x8x8, .f32⟩
  | .hbm, ⟨52, _⟩ => ⟨S16x2048x8x8, .f32⟩
  | .hbm, ⟨53, _⟩ => ⟨S16x2048x8x8, .f32⟩
  | .hbm, ⟨54, _⟩ => ⟨S16x2048x8x8, .f32⟩
  | .hbm, ⟨55, _⟩ => ⟨S16x2048x8x8, .f32⟩
  | .hbm, ⟨56, _⟩ => ⟨S16x2048x8x8, .f32⟩
  | .hbm, ⟨57, _⟩ => ⟨S16x2048x8x8, .f32⟩
  | .hbm, ⟨58, _⟩ => ⟨S16x2048x8x8, .f32⟩
  | .hbm, ⟨59, _⟩ => ⟨S16x2048x8x8, .f32⟩
  | .hbm, ⟨60, _⟩ => ⟨S16x2048x8x8, .f32⟩
  | .hbm, ⟨61, _⟩ => ⟨S16x2048x8x8, .f32⟩
  | .hbm, ⟨62, _⟩ => ⟨S16x2048x8x8, .f32⟩
  | .hbm, ⟨63, _⟩ => ⟨S16x2048x8x16, .f32⟩
  | .hbm, ⟨64, _⟩ => ⟨S16x2048x8x48, .f32⟩
  | .hbm, ⟨65, _⟩ => ⟨S16x2048x8x64, .f32⟩
  | .hbm, ⟨66, _⟩ => ⟨S16x2048x2x64, .f32⟩
  | .hbm, ⟨67, _⟩ => ⟨S16x2048x2x8, .f32⟩
  | .hbm, ⟨68, _⟩ => ⟨S16x2048x2x8, .f32⟩
  | .hbm, ⟨69, _⟩ => ⟨S16x2048x2x8, .f32⟩
  | .hbm, ⟨70, _⟩ => ⟨S16x2048x2x8, .f32⟩
  | .hbm, ⟨71, _⟩ => ⟨S16x2048x2x8, .f32⟩
  | .hbm, ⟨72, _⟩ => ⟨S16x2048x2x8, .f32⟩
  | .hbm, ⟨73, _⟩ => ⟨S16x2048x2x8, .f32⟩
  | .hbm, ⟨74, _⟩ => ⟨S16x2048x2x8, .f32⟩
  | .hbm, ⟨75, _⟩ => ⟨S16x2048x2x8, .f32⟩
  | .hbm, ⟨76, _⟩ => ⟨S16x2048x2x8, .f32⟩
  | .hbm, ⟨77, _⟩ => ⟨S16x2048x2x8, .f32⟩
  | .hbm, ⟨78, _⟩ => ⟨S16x2048x2x8, .f32⟩
  | .hbm, ⟨79, _⟩ => ⟨S16x2048x2x16, .f32⟩
  | .hbm, ⟨80, _⟩ => ⟨S16x2048x2x48, .f32⟩
  | .hbm, ⟨81, _⟩ => ⟨S16x2048x2x64, .f32⟩
  | .hbm, ⟨82, _⟩ => ⟨S32768x2048, .f32⟩
  | .hbm, ⟨83, _⟩ => ⟨S32768x1536, .f32⟩
  | .hbm, ⟨84, _⟩ => ⟨S32768x512, .f32⟩
  | .hbm, ⟨85, _⟩ => ⟨S32768x128, .f32⟩
  | .hbm, ⟨86, _⟩ => ⟨S32768x128, .f32⟩
  | .hbm, ⟨87, _⟩ => ⟨S32768x4352, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩

abbrev nD : Nat := 1
abbrev τ : Topo := Topo.v7x

variable {F : FTy → Type} [FloatOps F]
-- ==== Kernel3.lean ====
abbrev S32768x1024 : Shape := ⟨2, ![32768, 1024]⟩
abbrev S32768x512 : Shape := ⟨2, ![32768, 512]⟩
abbrev S32768x2048 : Shape := ⟨2, ![32768, 2048]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩
abbrev S32768x2304 : Shape := ⟨2, ![32768, 2304]⟩
abbrev S32768x4352 : Shape := ⟨2, ![32768, 4352]⟩
abbrev S1x512 : Shape := ⟨2, ![1, 512]⟩
abbrev S1x1024 : Shape := ⟨2, ![1, 1024]⟩
abbrev S256x1024 : Shape := ⟨2, ![256, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 24
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S32768x2048, .f32⟩
  | .hbm, ⟨6, _⟩ => ⟨S512, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x2048, .f32⟩
  | .hbm, ⟨12, _⟩ => ⟨S_, .f32⟩
  | .hbm, ⟨13, _⟩ => ⟨S32768x2304, .f32⟩
  | .hbm, ⟨14, _⟩ => ⟨S32768x4352, .f32⟩
  | .hbm, ⟨15, _⟩ => ⟨S1x512, .f32⟩
  | .hbm, ⟨16, _⟩ => ⟨S512x1024, .bf16⟩
  | .hbm, ⟨17, _⟩ => ⟨S512x1024, .bf16⟩
  | .hbm, ⟨18, _⟩ => ⟨S1024x1024, .bf16⟩
  | .hbm, ⟨19, _⟩ => ⟨S1x1024, .f32⟩
  | .hbm, ⟨20, _⟩ => ⟨S1024x2048, .bf16⟩
  | .hbm, ⟨21, _⟩ => ⟨S32768x1024, .f32⟩
  | .hbm, ⟨22, _⟩ => ⟨S32768x1024, .f32⟩
  | .hbm, ⟨23, _⟩ => ⟨S32768x2048, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x2048, .f32⟩
  | .local _ .vmem, ⟨11, _⟩ => ⟨S256x2048, .f32⟩
  | .local _ .vmem, ⟨12, _⟩ => ⟨S1x512, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S1024x2048, .bf16⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x2048, .bf16⟩
  | .local _ .vmem, ⟨23, _⟩ => ⟨S256x2048, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S32768x1024 : Shape := ⟨2, ![32768, 1024]⟩
abbrev S32768x512 : Shape := ⟨2, ![32768, 512]⟩
abbrev S32768x2048 : Shape := ⟨2, ![32768, 2048]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S1x512 : Shape := ⟨2, ![1, 512]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S32768x2048, .f32⟩
  | .hbm, ⟨6, _⟩ => ⟨S512, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024x2048, .f32⟩
  | .hbm, ⟨12, _⟩ => ⟨S32768x512, .f32⟩
  | .hbm, ⟨13, _⟩ => ⟨S32768x1024, .f32⟩
  | .hbm, ⟨14, _⟩ => ⟨S1x512, .f32⟩
  | .hbm, ⟨15, _⟩ => ⟨S32768x512, .f32⟩
  | .hbm, ⟨16, _⟩ => ⟨S32768x512, .f32⟩
  | .hbm, ⟨17, _⟩ => ⟨S32768x512, .f32⟩
  | .hbm, ⟨18, _⟩ => ⟨S32768x512, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S32768x1, .f32⟩
  | .hbm, ⟨54, _⟩ => ⟨S32768x1024, .f32⟩
  | .hbm, ⟨55, _⟩ => ⟨S32768x1024, .f32⟩
  | .hbm, ⟨56, _⟩ => ⟨S1x1024, .f32⟩
  | .hbm, ⟨57, _⟩ => ⟨S32768x1024, .f32⟩
  | .hbm, ⟨58, _⟩ => ⟨S32768x1024, .f32⟩
  | .hbm, ⟨59, _⟩ => ⟨S32768x2048, .f32⟩
  | .hbm, ⟨60, _⟩ => ⟨S32768x2048, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S32768x8x128 : Shape := ⟨3, ![32768, 8, 128]⟩
abbrev S1x1024 : Shape := ⟨2, ![1, 1024]⟩
abbrev S256x1024 : Shape := ⟨2, ![256, 1024]⟩
abbrev S256x8x128 : Shape := ⟨3, ![256, 8, 128]⟩
abbrev S256x1x128 : Shape := ⟨3, ![256, 1, 128]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024, .f32⟩
  | .hbm, ⟨3, _⟩ => ⟨S32768x8x128, .f32⟩
  | .hbm, ⟨4, _⟩ => ⟨S1x1024, .f32⟩
  | .hbm, ⟨5, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x8x128, .f32⟩
  | .local _ .vmem, ⟨3, _⟩ => ⟨S256x8x128, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024, .f32⟩
  | .hbm, ⟨3, _⟩ => ⟨S32768x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel5.lean ====
abbrev S16x2048x1536 : Shape := ⟨3, ![16, 2048, 1536]⟩
abbrev S3x1536 : Shape := ⟨2, ![3, 1536]⟩
abbrev S1536 : Shape := ⟨1, ![1536]⟩
abbrev S_ : Shape := ⟨0, ![]⟩
abbrev S32768x2048 : Shape := ⟨2, ![32768, 2048]⟩
abbrev S32768x1536 : Shape := ⟨2, ![32768, 1536]⟩
abbrev S32768x768 : Shape := ⟨2, ![32768, 768]⟩
abbrev S32768x4352 : Shape := ⟨2, ![32768, 4352]⟩
abbrev S1x1536 : Shape := ⟨2, ![1, 1536]⟩
abbrev S32768x512 : Shape := ⟨2, ![32768, 512]⟩
abbrev S2048x256 : Shape := ⟨2, ![2048, 256]⟩
abbrev S3x256 : Shape := ⟨2, ![3, 256]⟩
abbrev S1x256 : Shape := ⟨2, ![1, 256]⟩

abbrev nBuf : Space → Nat
  | .hbm => 13
  | .vmem => 24
  | .smem => 0
  | _ => 0

abbrev bufTy : (tb : Table) → Fin (tcTables nBuf tb) → BufTy
  | .hbm, ⟨0, _⟩ => ⟨S16x2048x1536, .f32⟩
  | .hbm, ⟨1, _⟩ => ⟨S3x1536, .f32⟩
  | .hbm, ⟨2, _⟩ => ⟨S1536, .f32⟩
  | .hbm, ⟨3, _⟩ => ⟨S_, .f32⟩
  | .hbm, ⟨4, _⟩ => ⟨S32768x2048, .f32⟩
  | .hbm, ⟨5, _⟩ => ⟨S32768x1536, .f32⟩
  | .hbm, ⟨6, _⟩ => ⟨S_, .f32⟩
  | .hbm, ⟨7, _⟩ => ⟨S32768x768, .f32⟩
  | .hbm, ⟨8, _⟩ => ⟨S32768x4352, .f32⟩
  | .hbm, ⟨9, _⟩ => ⟨S1x1536, .f32⟩
  | .hbm, ⟨10, _⟩ => ⟨S32768x512, .f32⟩
  | .hbm, ⟨11, _⟩ => ⟨S32768x512, .f32⟩
  | .hbm, ⟨12, _⟩ => ⟨S32768x512, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S2048x256, .bf16⟩
  | .local _ .vmem, ⟨23, _⟩ => ⟨S2048x256, .bf16⟩
  | _, _ => ⟨S16x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference5Ideal.lean ====
abbrev S16x2048x1536 : Shape := ⟨3, ![16, 2048, 1536]⟩
abbrev S3x1536 : Shape := ⟨2, ![3, 1536]⟩
abbrev S1536 : Shape := ⟨1, ![1536]⟩
abbrev S_ : Shape := ⟨0, ![]⟩
abbrev S16x2050x1536 : Shape := ⟨3, ![16, 2050, 1536]⟩
abbrev S1x1536 : Shape := ⟨2, ![1, 1536]⟩
abbrev S1x1x1536 : Shape := ⟨3, ![1, 1, 1536]⟩
abbrev S16x2048x512 : Shape := ⟨3, ![16, 2048, 512]⟩
abbrev S32768x512 : Shape := ⟨2, ![32768, 512]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x1536, .f32⟩
  | .hbm, ⟨1, _⟩ => ⟨S3x1536, .f32⟩
  | .hbm, ⟨2, _⟩ => ⟨S1536, .f32⟩
  | .hbm, ⟨3, _⟩ => ⟨S_, .i32⟩
  | .hbm, ⟨4, _⟩ => ⟨S_, .f32⟩
  | .hbm, ⟨5, _⟩ => ⟨S16x2050x1536, .f32⟩
  | .hbm, ⟨6, _⟩ => ⟨S1x1536, .f32⟩
  | .hbm, ⟨7, _⟩ => ⟨S1536, .f32⟩
  | .hbm, ⟨8, _⟩ => ⟨S16x2048x1536, .f32⟩
  | .hbm, ⟨9, _⟩ => ⟨S1x1x1536, .f32⟩
  | .hbm, ⟨10, _⟩ => ⟨S16x2048x1536, .f32⟩
  | .hbm, ⟨11, _⟩ => ⟨S16x2048x1536, .f32⟩
  | .hbm, ⟨12, _⟩ => ⟨S1x1536, .f32⟩
  | .hbm, ⟨13, _⟩ => ⟨S1536, .f32⟩
  | .hbm, ⟨14, _⟩ => ⟨S16x2048x1536, .f32⟩
  | .hbm, ⟨15, _⟩ => ⟨S1x1x1536, .f32⟩
  | .hbm, ⟨16, _⟩ => ⟨S16x2048x1536, .f32⟩
  | .hbm, ⟨17, _⟩ => ⟨S16x2048x1536, .f32⟩
  | .hbm, ⟨18, _⟩ => ⟨S16x2048x1536, .f32⟩
  | .hbm, ⟨19, _⟩ => ⟨S1x1536, .f32⟩
  | .hbm, ⟨20, _⟩ => ⟨S1536, .f32⟩
  | .hbm, ⟨21, _⟩ => ⟨S16x2048x1536, .f32⟩
  | .hbm, ⟨22, _⟩ => ⟨S1x1x1536, .f32⟩
  | .hbm, ⟨23, _⟩ => ⟨S16x2048x1536, .f32⟩
  | .hbm, ⟨24, _⟩ => ⟨S16x2048x1536, .f32⟩
  | .hbm, ⟨25, _⟩ => ⟨S16x2048x1536, .f32⟩
  | .hbm, ⟨26, _⟩ => ⟨S1x1x1536, .f32⟩
  | .hbm, ⟨27, _⟩ => ⟨S16x2048x1536, .f32⟩
  | .hbm, ⟨28, _⟩ => ⟨S16x2048x1536, .f32⟩
  | .hbm, ⟨29, _⟩ => ⟨S16x2048x512, .f32⟩
  | .hbm, ⟨30, _⟩ => ⟨S16x2048x512, .f32⟩
  | .hbm, ⟨31, _⟩ => ⟨S16x2048x512, .f32⟩
  | .hbm, ⟨32, _⟩ => ⟨S16x2048x512, .f32⟩
  | .hbm, ⟨33, _⟩ => ⟨S32768x512, .f32⟩
  | .hbm, ⟨34, _⟩ => ⟨S32768x512, .f32⟩
  | .hbm, ⟨35, _⟩ => ⟨S32768x512, .f32⟩
  | .hbm, ⟨36, _⟩ => ⟨S32768x512, .bf16⟩
  | _, _ => ⟨S16x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩

abbrev nD : Nat := 1
abbrev τ : Topo := Topo.v7x

variable {F : FTy → Type} [FloatOps F]
-- ==== Kernel6.lean ====
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S1024 : Shape := ⟨1, ![1024]⟩
abbrev S_ : Shape := ⟨0, ![]⟩
abbrev S2047 : Shape := ⟨1, ![2047]⟩
abbrev S1 : Shape := ⟨1, ![1]⟩
abbrev S2048 : Shape := ⟨1, ![2048]⟩
abbrev S2048x1 : Shape := ⟨2, ![2048, 1]⟩
abbrev S15 : Shape := ⟨1, ![15]⟩
abbrev S16 : Shape := ⟨1, ![16]⟩
abbrev S1x16 : Shape := ⟨2, ![1, 16]⟩
abbrev S2048x16 : Shape := ⟨2, ![2048, 16]⟩
abbrev S2048x33 : Shape := ⟨2, ![2048, 33]⟩
abbrev S511 : Shape := ⟨1, ![511]⟩
abbrev S512 : Shape := ⟨1, ![512]⟩
abbrev S1x512 : Shape := ⟨2, ![1, 512]⟩
abbrev S2048x512 : Shape := ⟨2, ![2048, 512]⟩
abbrev S2048x128 : Shape := ⟨2, ![2048, 128]⟩
abbrev S128x128 : Shape := ⟨2, ![128, 128]⟩
abbrev S1x64 : Shape := ⟨2, ![1, 64]⟩
abbrev S1x128 : Shape := ⟨2, ![1, 128]⟩
abbrev S128x1024 : Shape := ⟨2, ![128, 1024]⟩
abbrev S1x1024 : Shape := ⟨2, ![1, 1024]⟩
abbrev S2048x1024 : Shape := ⟨2, ![2048, 1024]⟩
abbrev S512x128 : Shape := ⟨2, ![512, 128]⟩
abbrev S512x512 : Shape := ⟨2, ![512, 512]⟩
abbrev S512x1024 : Shape := ⟨2, ![512, 1024]⟩

abbrev nBuf : Space → Nat
  | .hbm => 134
  | .vmem => 14
  | .smem => 0
  | _ => 0

abbrev hbmTy0_0 (i : Nat) : BufTy := match i % 128 with
  | 0 => ⟨S33x64, .f32⟩
  | 1 => ⟨S64, .f32⟩
  | 2 => ⟨S64, .f32⟩
  | 3 => ⟨S64x64, .f32⟩
  | 4 => ⟨S64, .f32⟩
  | 5 => ⟨S64, .f32⟩
  | 6 => ⟨S64x1024, .f32⟩
  | 7 => ⟨S1024, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S2047, .f32⟩
  | 16 => ⟨S_, .f32⟩
  | 17 => ⟨S2047, .f32⟩
  | 18 => ⟨S2047, .f32⟩
  | 19 => ⟨S1, .f32⟩
  | 20 => ⟨S_, .f32⟩
  | 21 => ⟨S2047, .f32⟩
  | 22 => ⟨S2047, .f32⟩
  | 23 => ⟨S2047, .f32⟩
  | 24 => ⟨S2047, .f32⟩
  | 25 => ⟨S1, .f32⟩
  | 26 => ⟨S2047, .f32⟩
  | 27 => ⟨S2047, .f32⟩
  | 28 => ⟨S2047, .f32⟩
  | 29 => ⟨S1, .f32⟩
  | 30 => ⟨S2048, .f32⟩
  | 31 => ⟨S2048x1, .f32⟩
  | 32 => ⟨S2048, .f32⟩
  | 33 => ⟨S2048x1, .f32⟩
  | 34 => ⟨S_, .f32⟩
  | 35 => ⟨S2048x1, .f32⟩
  | 36 => ⟨S2048x1, .f32⟩
  | 37 => ⟨S_, .f32⟩
  | 38 => ⟨S2048x1, .f32⟩
  | 39 => ⟨S2048x1, .f32⟩
  | 40 => ⟨S_, .f32⟩
  | 41 => ⟨S_, .i32⟩
  | 42 => ⟨S_, .f32⟩
  | 43 => ⟨S_, .f32⟩
  | 44 => ⟨S_, .f32⟩
  | 45 => ⟨S_, .f32⟩
  | 46 => ⟨S_, .f32⟩
  | 47 => ⟨S15, .f32⟩
  | 48 => ⟨S_, .f32⟩
  | 49 => ⟨S15, .f32⟩
  | 50 => ⟨S15, .f32⟩
  | 51 => ⟨S1, .f32⟩
  | 52 => ⟨S_, .f32⟩
  | 53 => ⟨S15, .f32⟩
  | 54 => ⟨S15, .f32⟩
  | 55 => ⟨S15, .f32⟩
  | 56 => ⟨S15, .f32⟩
  | 57 => ⟨S1, .f32⟩
  | 58 => ⟨S15, .f32⟩
  | 59 => ⟨S15, .f32⟩
  | 60 => ⟨S15, .f32⟩
  | 61 => ⟨S1, .f32⟩
  | 62 => ⟨S16, .f32⟩
  | 63 => ⟨S1x16, .f32⟩
  | 64 => ⟨S2048x16, .f32⟩
  | 65 => ⟨S2048x16, .f32⟩
  | 66 => ⟨S2048x16, .f32⟩
  | 67 => ⟨S2048x16, .f32⟩
  | 68 => ⟨S2048x16, .f32⟩
  | 69 => ⟨S2048x16, .f32⟩
  | 70 => ⟨S2048x16, .f32⟩
  | 71 => ⟨S2048x16, .f32⟩
  | 72 => ⟨S2048x16, .f32⟩
  | 73 => ⟨S2048x33, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S511, .f32⟩
  | 82 => ⟨S_, .f32⟩
  | 83 => ⟨S511, .f32⟩
  | 84 => ⟨S511, .f32⟩
  | 85 => ⟨S1, .f32⟩
  | 86 => ⟨S_, .f32⟩
  | 87 => ⟨S511, .f32⟩
  | 88 => ⟨S511, .f32⟩
  | 89 => ⟨S511, .f32⟩
  | 90 => ⟨S511, .f32⟩
  | 91 => ⟨S1, .f32⟩
  | 92 => ⟨S511, .f32⟩
  | 93 => ⟨S511, .f32⟩
  | 94 => ⟨S511, .f32⟩
  | 95 => ⟨S1, .f32⟩
  | 96 => ⟨S512, .f32⟩
  | 97 => ⟨S2048x1, .f32⟩
  | 98 => ⟨S512, .f32⟩
  | 99 => ⟨S1x512, .f32⟩
  | 100 => ⟨S2048x512, .f32⟩
  | 101 => ⟨S2048x512, .f32⟩
  | 102 => ⟨S2048x512, .f32⟩
  | 103 => ⟨S2048x512, .f32⟩
  | 104 => ⟨S_, .i32⟩
  | 105 => ⟨S_, .f32⟩
  | 106 => ⟨S2048x128, .f32⟩
  | 107 => ⟨S_, .i32⟩
  | 108 => ⟨S_, .f32⟩
  | 109 => ⟨S128x128, .f32⟩
  | 110 => ⟨S1x64, .f32⟩
  | 111 => ⟨S_, .i32⟩
  | 112 => ⟨S_, .f32⟩
  | 113 => ⟨S1x128, .f32⟩
  | 114 => ⟨S1x64, .f32⟩
  | 115 => ⟨S_, .i32⟩
  | 116 => ⟨S_, .f32⟩
  | 117 => ⟨S1x128, .f32⟩
  | 118 => ⟨S_, .i32⟩
  | 119 => ⟨S_, .f32⟩
  | 120 => ⟨S128x128, .f32⟩
  | 121 => ⟨S1x64, .f32⟩
  | 122 => ⟨S_, .i32⟩
  | 123 => ⟨S_, .f32⟩
  | 124 => ⟨S1x128, .f32⟩
  | 125 => ⟨S1x64, .f32⟩
  | 126 => ⟨S_, .i32⟩
  | 127 => ⟨S_, .f32⟩
  | _ => ⟨S33x64, .f32⟩

abbrev hbmTy0_1 (i : Nat) : BufTy := match i % 128 with
  | 0 => ⟨S1x128, .f32⟩
  | 1 => ⟨S_, .i32⟩
  | 2 => ⟨S_, .f32⟩
  | 3 => ⟨S128x1024, .f32⟩
  | 4 => ⟨S1x1024, .f32⟩
  | 5 => ⟨S2048x1024, .f32⟩
  | _ => ⟨S33x64, .f32⟩

abbrev hbmTy (i : Nat) : BufTy := match i / 128 with
  | 0 => hbmTy0_0 i
  | 1 => hbmTy0_1 i
  | _ => ⟨S33x64, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S128x1024, .f32⟩
  | .local _ .vmem, ⟨9, _⟩ => ⟨S1x1024, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | _, _ => ⟨S33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst_1 : Ref sig .tc := ⟨.hbm, 34, rfl⟩
abbrev main_v4 : Ref sig .tc := ⟨.hbm, 35, rfl⟩
abbrev main_v5 : Ref sig .tc := ⟨.hbm, 36, rfl⟩
abbrev main_cst_2 : Ref sig .tc := ⟨.hbm, 37, rfl⟩
abbrev main_v6 : Ref sig .tc := ⟨.hbm, 38, rfl⟩
abbrev main_v7 : Ref sig .tc := ⟨.hbm, 39, rfl⟩
abbrev main_cst_3 : Ref sig .tc := ⟨.hbm, 40, rfl⟩
abbrev main_c : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_cst : Ref sig .tc := ⟨.hbm, 45, rfl⟩
abbrev main_call1_v3 : Ref sig .tc := ⟨.hbm, 46, rfl⟩
abbrev main_call1_v4 : Ref sig .tc := ⟨.hbm, 47, rfl⟩
abbrev main_call1_cst_0 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_cst_1 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_v15 : Ref sig .tc := ⟨.hbm, 60, rfl⟩
abbrev main_call1_v16 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_cst_4 : Ref sig .tc := ⟨.hbm, 74, rfl⟩
abbrev main_cst_5 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_cst : Ref sig .tc := ⟨.hbm, 79, rfl⟩
abbrev main_call2_v3 : Ref sig .tc := ⟨.hbm, 80, rfl⟩
abbrev main_call2_v4 : Ref sig .tc := ⟨.hbm, 81, rfl⟩
abbrev main_call2_cst_0 : Ref sig .tc := ⟨.hbm, 82, rfl⟩
abbrev main_call2_v5 : Ref sig .tc := ⟨.hbm, 83, rfl⟩
abbrev main_call2_v6 : Ref sig .tc := ⟨.hbm, 84, rfl⟩
abbrev main_call2_v7 : Ref sig .tc := ⟨.hbm, 85, rfl⟩
abbrev main_call2_cst_1 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_v12 : Ref sig .tc := ⟨.hbm, 91, rfl⟩
abbrev main_call2_v13 : Ref sig .tc := ⟨.hbm, 92, rfl⟩
abbrev main_call2_v14 : Ref sig .tc := ⟨.hbm, 93, rfl⟩
abbrev main_call2_v15 : Ref sig .tc := ⟨.hbm, 94, rfl⟩
abbrev main_call2_v16 : Ref sig .tc := ⟨.hbm, 95, rfl⟩
abbrev main_v20 : Ref sig .tc := ⟨.hbm, 96, rfl⟩
abbrev main_v21 : Ref sig .tc := ⟨.hbm, 97, rfl⟩
abbrev main_v22 : Ref sig .tc := ⟨.hbm, 98, rfl⟩
abbrev main_v23 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_c_6 : Ref sig .tc := ⟨.hbm, 104, rfl⟩
abbrev main_call3_v0 : Ref sig .tc := ⟨.hbm, 105, rfl⟩
abbrev main_v28 : Ref sig .tc := ⟨.hbm, 106, rfl⟩
abbrev main_c_7 : Ref sig .tc := ⟨.hbm, 107, rfl⟩
abbrev main_call4_v0 : Ref sig .tc := ⟨.hbm, 108, rfl⟩
abbrev main_v29 : Ref sig .tc := ⟨.hbm, 109, rfl⟩
abbrev main_v30 : Ref sig .tc := ⟨.hbm, 110, rfl⟩
abbrev main_c_8 : Ref sig .tc := ⟨.hbm, 111, rfl⟩
abbrev main_call5_v0 : Ref sig .tc := ⟨.hbm, 112, rfl⟩
abbrev main_v31 : Ref sig .tc := ⟨.hbm, 113, rfl⟩
abbrev main_v32 : Ref sig .tc := ⟨.hbm, 114, rfl⟩
abbrev main_c_9 : Ref sig .tc := ⟨.hbm, 115, rfl⟩
abbrev main_call6_v0 : Ref sig .tc := ⟨.hbm, 116, rfl⟩
abbrev main_v33 : Ref sig .tc := ⟨.hbm, 117, rfl⟩
abbrev main_c_10 : Ref sig .tc := ⟨.hbm, 118, rfl⟩
abbrev main_call7_v0 : Ref sig .tc := ⟨.hbm, 119, rfl⟩
abbrev main_v34 : Ref sig .tc := ⟨.hbm, 120, rfl⟩
abbrev main_v35 : Ref sig .tc := ⟨.hbm, 121, rfl⟩
abbrev main_c_11 : Ref sig .tc := ⟨.hbm, 122, rfl⟩
abbrev main_call8_v0 : Ref sig .tc := ⟨.hbm, 123, rfl⟩
abbrev main_v36 : Ref sig .tc := ⟨.hbm, 124, rfl⟩
abbrev main_v37 : Ref sig .tc := ⟨.hbm, 125, rfl⟩
abbrev main_c_12 : Ref sig .tc := ⟨.hbm, 126, rfl⟩
abbrev main_call9_v0 : Ref sig .tc := ⟨.hbm, 127, rfl⟩
abbrev main_v38 : Ref sig .tc := ⟨.hbm, 128, rfl⟩
abbrev main_c_13 : Ref sig .tc := ⟨.hbm, 129, rfl⟩
abbrev main_call10_v0 : Ref sig .tc := ⟨.hbm, 130, rfl⟩
abbrev main_v39 : Ref sig .tc := ⟨.hbm, 131, rfl⟩
abbrev main_v40 : Ref sig .tc := ⟨.hbm, 132, rfl⟩
abbrev main_v41 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S1024 : Shape := ⟨1, ![1024]⟩
abbrev S_ : Shape := ⟨0, ![]⟩
abbrev S2047 : Shape := ⟨1, ![2047]⟩
abbrev S1 : Shape := ⟨1, ![1]⟩
abbrev S2048 : Shape := ⟨1, ![2048]⟩
abbrev S2048x1 : Shape := ⟨2, ![2048, 1]⟩
abbrev S15 : Shape := ⟨1, ![15]⟩
abbrev S16 : Shape := ⟨1, ![16]⟩
abbrev S1x16 : Shape := ⟨2, ![1, 16]⟩
abbrev S2048x16 : Shape := ⟨2, ![2048, 16]⟩
abbrev S2048x33 : Shape := ⟨2, ![2048, 33]⟩
abbrev S2048x64 : Shape := ⟨2, ![2048, 64]⟩
abbrev S1x64 : Shape := ⟨2, ![1, 64]⟩
abbrev S2048x1024 : Shape := ⟨2, ![2048, 1024]⟩
abbrev S1x1024 : Shape := ⟨2, ![1, 1024]⟩
abbrev S511 : Shape := ⟨1, ![511]⟩
abbrev S512 : Shape := ⟨1, ![512]⟩
abbrev S1x512 : Shape := ⟨2, ![1, 512]⟩
abbrev S2048x512 : Shape := ⟨2, ![2048, 512]⟩
abbrev S2048x2x512 : Shape := ⟨3, ![2048, 2, 512]⟩
abbrev S2048x1x512 : Shape := ⟨3, ![2048, 1, 512]⟩

abbrev nBuf : Space → Nat
  | .hbm => 129
  | .vmem => 0
  | .smem => 0
  | _ => 0

abbrev hbmTy0_0 (i : Nat) : BufTy := match i % 128 with
  | 0 => ⟨S33x64, .f32⟩
  | 1 => ⟨S64, .f32⟩
  | 2 => ⟨S64, .f32⟩
  | 3 => ⟨S64x64, .f32⟩
  | 4 => ⟨S64, .f32⟩
  | 5 => ⟨S64, .f32⟩
  | 6 => ⟨S64x1024, .f32⟩
  | 7 => ⟨S1024, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S2047, .f32⟩
  | 16 => ⟨S_, .f32⟩
  | 17 => ⟨S2047, .f32⟩
  | 18 => ⟨S2047, .f32⟩
  | 19 => ⟨S1, .f32⟩
  | 20 => ⟨S_, .f32⟩
  | 21 => ⟨S2047, .f32⟩
  | 22 => ⟨S2047, .f32⟩
  | 23 => ⟨S2047, .f32⟩
  | 24 => ⟨S2047, .f32⟩
  | 25 => ⟨S1, .f32⟩
  | 26 => ⟨S2047, .f32⟩
  | 27 => ⟨S2047, .f32⟩
  | 28 => ⟨S2047, .f32⟩
  | 29 => ⟨S1, .f32⟩
  | 30 => ⟨S2048, .f32⟩
  | 31 => ⟨S2048x1, .f32⟩
  | 32 => ⟨S2048, .f32⟩
  | 33 => ⟨S2048x1, .f32⟩
  | 34 => ⟨S_, .f32⟩
  | 35 => ⟨S2048x1, .f32⟩
  | 36 => ⟨S2048x1, .f32⟩
  | 37 => ⟨S_, .f32⟩
  | 38 => ⟨S2048x1, .f32⟩
  | 39 => ⟨S2048x1, .f32⟩
  | 40 => ⟨S_, .f32⟩
  | 41 => ⟨S_, .i32⟩
  | 42 => ⟨S_, .f32⟩
  | 43 => ⟨S_, .f32⟩
  | 44 => ⟨S_, .f32⟩
  | 45 => ⟨S_, .f32⟩
  | 46 => ⟨S_, .f32⟩
  | 47 => ⟨S15, .f32⟩
  | 48 => ⟨S_, .f32⟩
  | 49 => ⟨S15, .f32⟩
  | 50 => ⟨S15, .f32⟩
  | 51 => ⟨S1, .f32⟩
  | 52 => ⟨S_, .f32⟩
  | 53 => ⟨S15, .f32⟩
  | 54 => ⟨S15, .f32⟩
  | 55 => ⟨S15, .f32⟩
  | 56 => ⟨S15, .f32⟩
  | 57 => ⟨S1, .f32⟩
  | 58 => ⟨S15, .f32⟩
  | 59 => ⟨S15, .f32⟩
  | 60 => ⟨S15, .f32⟩
  | 61 => ⟨S1, .f32⟩
  | 62 => ⟨S16, .f32⟩
  | 63 => ⟨S1x16, .f32⟩
  | 64 => ⟨S2048x16, .f32⟩
  | 65 => ⟨S2048x16, .f32⟩
  | 66 => ⟨S2048x16, .f32⟩
  | 67 => ⟨S2048x16, .f32⟩
  | 68 => ⟨S2048x16, .f32⟩
  | 69 => ⟨S2048x16, .f32⟩
  | 70 => ⟨S2048x16, .f32⟩
  | 71 => ⟨S2048x16, .f32⟩
  | 72 => ⟨S2048x16, .f32⟩
  | 73 => ⟨S2048x33, .f32⟩
  | 74 => ⟨S2048x64, .f32⟩
  | 75 => ⟨S1x64, .f32⟩
  | 76 => ⟨S2048x64, .f32⟩
  | 77 => ⟨S2048x64, .f32⟩
  | 78 => ⟨S1x64, .f32⟩
  | 79 => ⟨S2048x64, .f32⟩
  | 80 => ⟨S2048x64, .f32⟩
  | 81 => ⟨S2048x64, .f32⟩
  | 82 => ⟨S2048x64, .f32⟩
  | 83 => ⟨S1x64, .f32⟩
  | 84 => ⟨S2048x64, .f32⟩
  | 85 => ⟨S2048x64, .f32⟩
  | 86 => ⟨S1x64, .f32⟩
  | 87 => ⟨S2048x64, .f32⟩
  | 88 => ⟨S2048x64, .f32⟩
  | 89 => ⟨S2048x64, .f32⟩
  | 90 => ⟨S2048x1024, .f32⟩
  | 91 => ⟨S1x1024, .f32⟩
  | 92 => ⟨S2048x1024, .f32⟩
  | 93 => ⟨S2048x1024, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S511, .f32⟩
  | 102 => ⟨S_, .f32⟩
  | 103 => ⟨S511, .f32⟩
  | 104 => ⟨S511, .f32⟩
  | 105 => ⟨S1, .f32⟩
  | 106 => ⟨S_, .f32⟩
  | 107 => ⟨S511, .f32⟩
  | 108 => ⟨S511, .f32⟩
  | 109 => ⟨S511, .f32⟩
  | 110 => ⟨S511, .f32⟩
  | 111 => ⟨S1, .f32⟩
  | 112 => ⟨S511, .f32⟩
  | 113 => ⟨S511, .f32⟩
  | 114 => ⟨S511, .f32⟩
  | 115 => ⟨S1, .f32⟩
  | 116 => ⟨S512, .f32⟩
  | 117 => ⟨S2048x1, .f32⟩
  | 118 => ⟨S512, .f32⟩
  | 119 => ⟨S1x512, .f32⟩
  | 120 => ⟨S2048x512, .f32⟩
  | 121 => ⟨S2048x512, .f32⟩
  | 122 => ⟨S2048x512, .f32⟩
  | 123 => ⟨S2048x512, .f32⟩
  | 124 => ⟨S2048x2x512, .f32⟩
  | 125 => ⟨S2048x1x512, .f32⟩
  | 126 => ⟨S2048x2x512, .f32⟩
  | 127 => ⟨S2048x2x512, .f32⟩
  | _ => ⟨S33x64, .f32⟩

abbrev hbmTy0_1 (i : Nat) : BufTy := match i % 128 with
  | 0 => ⟨S2048x1024, .f32⟩
  | _ => ⟨S33x64, .f32⟩

abbrev hbmTy (i : Nat) : BufTy := match i / 128 with
  | 0 => hbmTy0_0 i
  | 1 => hbmTy0_1 i
  | _ => ⟨S33x64, .f32⟩

abbrev bufTy : (tb : Table) → Fin (tcTables nBuf tb) → BufTy
  | .hbm, ⟨i, _⟩ => hbmTy i
  | _, _ => ⟨S33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst_1 : Ref sig .tc := ⟨.hbm, 34, rfl⟩
abbrev main_v4 : Ref sig .tc := ⟨.hbm, 35, rfl⟩
abbrev main_v5 : Ref sig .tc := ⟨.hbm, 36, rfl⟩
abbrev main_cst_2 : Ref sig .tc := ⟨.hbm, 37, rfl⟩
abbrev main_v6 : Ref sig .tc := ⟨.hbm, 38, rfl⟩
abbrev main_v7 : Ref sig .tc := ⟨.hbm, 39, rfl⟩
abbrev main_cst_3 : Ref sig .tc := ⟨.hbm, 40, rfl⟩
abbrev main_c : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_cst : Ref sig .tc := ⟨.hbm, 45, rfl⟩
abbrev main_call1_v3 : Ref sig .tc := ⟨.hbm, 46, rfl⟩
abbrev main_call1_v4 : Ref sig .tc := ⟨.hbm, 47, rfl⟩
abbrev main_call1_cst_0 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_cst_1 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_v15 : Ref sig .tc := ⟨.hbm, 60, rfl⟩
abbrev main_call1_v16 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_cst_4 : Ref sig .tc := ⟨.hbm, 94, rfl⟩
abbrev main_cst_5 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_call2_cst : Ref sig .tc := ⟨.hbm, 99, rfl⟩
abbrev main_call2_v3 : Ref sig .tc := ⟨.hbm, 100, rfl⟩
abbrev main_call2_v4 : Ref sig .tc := ⟨.hbm, 101, rfl⟩
abbrev main_call2_cst_0 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_cst_1 : Ref sig .tc := ⟨.hbm, 106, rfl⟩
abbrev main_call2_v8 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_v12 : Ref sig .tc := ⟨.hbm, 111, rfl⟩
abbrev main_call2_v13 : Ref sig .tc := ⟨.hbm, 112, rfl⟩
abbrev main_call2_v14 : Ref sig .tc := ⟨.hbm, 113, rfl⟩
abbrev main_call2_v15 : Ref sig .tc := ⟨.hbm, 114, rfl⟩
abbrev main_call2_v16 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩

abbrev nD : Nat := 1
abbrev τ : Topo := Topo.v7x

variable {F : FTy → Type} [FloatOps F]
-- ==== Proof.Merge.lean ====
module

public import proofs.«01_k».proof.Proof.Gen.Kernel3Ideal.Frame
public import proofs.«01_k».proof.Proof.Gen.Reference3Ideal.Run
public import Idealize.ShloMosaic.Lib.Claim
public import Idealize.ShloMosaic.Lib.Pointwise
public import Idealize.ShloMosaic.Lib.Pipeline.ValueKit

/-!
The merge of the two branches: the gated sum of the projected attention and of the projected hyena branch is
projected out and added to the residual; the sum is normalised and multiplied by the query weights. Each grid
point does it for 256 rows, and the reference for the whole arrays.
-/

@[expose] public section

set_option maxRecDepth 16384

noncomputable section

open Idealize.ShloMosaic Idealize.ShloMosaic.TcCoe Idealize.SL.Sem
open Idealize.ShloMosaic.Pipeline (Dat)

namespace Cert.Reference3Ideal.Merge

open Cert.Reference3Ideal Cert.Reference3Ideal.Gen

/-- The residual stream after the merge, as the reference computes it. -/
def H (x : FVec Ideal S32768x1024 .f32) (attn : FVec Ideal S32768x512 .bf16) (x0 z yl : FVec Ideal S32768x512 .f32)
    (gates : FVec Ideal S32768x2048 .f32) (skip : FVec Ideal S512 .f32) (wab whb : FVec Ideal S512x1024 .f32)
    (wout : FVec Ideal S1024x1024 .f32) : FVec Ideal S32768x1024 .f32 :=
  addf x (Host.dotGeneral dot_S32768x1024_S1024x1024_S32768x1024_1_0_0_1_n_n none (addf (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extractStridedSlice S32768x1024 ![0, 0] gates slices_S32768x2048_S32768x1024_0_0))))) (Host.dotGeneral dot_S32768x512_S512x1024_S32768x1024_1_0_0_1_n_n none (extf .f32 attn bitsLt_bf16_f32) wab)) (mulf (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extractStridedSlice S32768x1024 ![0, 1024] gates slices_S32768x2048_S32768x1024_0_1024))))) (Host.dotGeneral dot_S32768x512_S512x1024_S32768x1024_1_0_0_1_n_n none (mulf x0 (addf yl (mulf z (broadcastInDim S32768x512 ![0, 1] bcast_S1x512_S32768x512_0_1 (broadcastInDim S1x512 ![1] bcast_S512_S1x512_1 skip))))) whb))) wout)

/-- The norm of an array's rows, as the reference computes it. -/
def NORM (h : FVec Ideal S32768x1024 .f32) (g : FVec Ideal S1024 .f32) : FVec Ideal S32768x1024 .f32 :=
  mulf (mulf h (broadcastInDim S32768x1024 ![0, 1] bcast_S32768x1_S32768x1024_0_1 (Host.rsqrt (addf (Host.divf (broadcastInDim S32768x1 ![0] bcast_S32768_S32768x1_0 (Host.reduceAdd (mulf h h) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- The queries: the normalised rows by the query weights. -/
def QUERY (hn : FVec Ideal S32768x1024 .f32) (w : FVec Ideal S1024x2048 .f32) : FVec Ideal S32768x2048 .bf16 :=
  truncf .bf16 (Host.dotGeneral dot_S32768x1024_S1024x2048_S32768x2048_1_0_0_1_n_n none hn w) bitsLt_bf16_f32

/-- The reference's second result is the norm of its first. -/
theorem res_norm (m : (ℓ : Loc nD τ sig) → Buf (Elt Ideal) ℓ) (c : Dev nD) : Cert.Reference3Ideal.Value.res_main_v39 m c
    = NORM (H (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9))) (m ((c.tc : Thread nD τ).loc main_arg10)) := rfl

/-- The reference's third result is the queries of its second. -/
theorem res_query (m : (ℓ : Loc nD τ sig) → Buf (Elt Ideal) ℓ) (c : Dev nD) : Cert.Reference3Ideal.Value.res_main_v41 m c
    = QUERY (NORM (H (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9))) (m ((c.tc : Thread nD τ).loc main_arg10)))
      (m ((c.tc : Thread nD τ).loc main_arg11)) := rfl

end Cert.Reference3Ideal.Merge

namespace Cert.Kernel3Ideal.Merge

open Cert.Kernel3Ideal Cert.Kernel3Ideal.Gen Cert.Reference3Ideal.Merge

variable (m : (ℓ : Loc nD τ sig) → Buf (Elt Ideal) ℓ)

/-- The block that every window takes at a grid point: row block `t` of the row-tiled arrays, the whole of the weights. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![t.val, 0] ∧ win0_13.index t = ![t.val, 0] ∧ win0_14.index t = ![t.val, 0] :=
  (by decide +kernel : ∀ t : Fin grid0.N, _)

/-- The reference's residual stream over this program's arguments. -/
abbrev HK (c : Dev nD) : FVec Ideal S32768x1024 .f32 :=
  H (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- Row `r` of block `t` is a row of the array. -/
theorem row_lt (t : Fin cfg0.N) (r : Fin 256) : t.val * 256 + r.val < 32768 := by
  have h : t.val < 128 := t.isLt
  omega

/-- The block of gates that a point reads, at an index: the gates' row, at the same column. -/
theorem gates_at (c : Dev nD) (t : Fin cfg0.N) (r : Fin 256) (k : Fin 2048) :
    X0_5 m c t (ix2 r k) = (m ((c : Thread nD τ).loc main_arg5) : FVec Ideal S32768x2048 .f32) (ix2 ⟨t.val * 256 + r.val, row_lt t r⟩ k) := by
  unfold X0_5 Pipeline.Window.fill
  rw [dif_pos (moved0_5 t _)]
  blk_simp [iblk, idx t]
  entry_read
  pointwise
  have hk := k.isLt
  rw [dif_pos (by blk_simp [idx t]; simp; try omega)]
  blk_ext [idx t]

/-- What a point computes for the residual stream, at a block index: the reference's value at the array index. -/
theorem point (c : Dev nD) (t : Fin cfg0.N) (r : Fin 256) (k : Fin 1024) :
    k0_pay3 (F := Ideal) (iblk m c 1 t) (iblk m c 7 t) (iblk m c 2 t) (iblk m c 4 t) (iblk m c 3 t) (iblk m c 6 t) (iblk m c 8 t)
      (X0_5 m c t) (iblk m c 0 t) (iblk m c 9 t) (ix2 r k) = HK m c (ix2 ⟨t.val * 256 + r.val, row_lt t r⟩ k) := by
  pointwise [k0_pay3, HK, H]
  simp only [gates_at, Ideal.logistic]
  blk_point [iblk, V, idx t]

/-- The block of the residual stream that a point computes. -/
theorem block (c : Dev nD) (t : Fin cfg0.N) :
    k0_pay3 (F := Ideal) (iblk m c 1 t) (iblk m c 7 t) (iblk m c 2 t) (iblk m c 4 t) (iblk m c 3 t) (iblk m c 6 t) (iblk m c 8 t)
      (X0_5 m c t) (iblk m c 0 t) (iblk m c 9 t) = fun y => HK m c (ix2 ⟨t.val * 256 + (y 0).val, row_lt t (y 0)⟩ (y 1)) := by
  funext y
  idx_vars y
  exact point m c t _ _

/-- After the run the first result is the reference's residual stream. -/
theorem final12 (c : Dev nD) : (dats m 0 c).arrAt 12 (cfgs 0).N = HK m c := by
  refine (dats m 0 c).arrAt_eq_of_covers 12 _ (by decide +kernel) fun t _ y => ?_
  blk_simp
  rw [after0_12]
  unfold outsAt0
  frame_out
  rw [block]
  blk_ext [idx t]

/-- After the run the second result is the reference's normalised stream. -/
theorem final13 (c : Dev nD) : (dats m 0 c).arrAt 13 (cfgs 0).N = NORM (HK m c) (m ((c : Thread nD τ).loc main_arg10)) := by
  refine (dats m 0 c).arrAt_eq_of_covers 13 _ (by decide +kernel) fun t _ y => ?_
  blk_simp
  rw [after0_13]
  unfold outsAt0
  frame_out
  rw [block]
  generalize HK m c = X
  pointwise [NORM, k0_pay1]
  blk_point [iblk, V, idx t]

/-- After the run the third result is the reference's queries. -/
theorem final14 (c : Dev nD) : (dats m 0 c).arrAt 14 (cfgs 0).N
    = QUERY (NORM (HK m c) (m ((c : Thread nD τ).loc main_arg10))) (m ((c : Thread nD τ).loc main_arg11)) := by
  refine (dats m 0 c).arrAt_eq_of_covers 14 _ (by decide +kernel) fun t _ y => ?_
  blk_simp
  rw [after0_14]
  unfold outsAt0
  frame_out
  rw [block]
  generalize HK m c = X
  pointwise [NORM, QUERY, k0_pay1, k0_pay2]
  blk_point [iblk, V, idx t]

end Cert.Kernel3Ideal.Merge
-- ==== Proof.Final.lean ====
module

public import proofs.«01_k».proof.Proof.Gen.Kernel4Ideal.Frame
public import proofs.«01_k».proof.Proof.Gen.Reference4Ideal.Run
public import Idealize.ShloMosaic.Lib.Claim
public import Idealize.ShloMosaic.Lib.Pointwise
public import Idealize.ShloMosaic.Lib.Pipeline.ValueKit

/-!
The closing norm: the kernel adds the experts' sum to the residual row by row, divides by the root of the mean
square and multiplies by the gain. Each grid point does it for 256 rows, and the reference for the whole array.
-/

@[expose] public section

set_option maxRecDepth 16384

noncomputable section

open Idealize.ShloMosaic Idealize.ShloMosaic.TcCoe Idealize.SL.Sem
open Idealize.ShloMosaic.Pipeline (Dat)

namespace Cert.Reference4Ideal.Final

open Cert.Reference4Ideal Cert.Reference4Ideal.Gen

/-- The reference's result as one term of its three arguments: `(h + p)` over the root of its mean square, times the gain. -/
abbrev REF (h p : FVec Ideal S32768x1024 .f32) (g : FVec Ideal S1024 .f32) :
    FVec Ideal S32768x1024 .f32 :=
  mulf (mulf (addf h p) (broadcastInDim S32768x1024 ![0, 1] bcast_S32768x1_S32768x1024_0_1 (Host.rsqrt (addf (Host.divf (broadcastInDim S32768x1 ![0] bcast_S32768_S32768x1_0 (Host.reduceAdd (mulf (addf h p) (addf h p)) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

end Cert.Reference4Ideal.Final

namespace Cert.Kernel4Ideal.Final

open Cert.Kernel4Ideal Cert.Kernel4Ideal.Gen Cert.Reference4Ideal.Final

variable (m : (ℓ : Loc nD τ sig) → Buf (Elt Ideal) ℓ)

/-- The block that every window takes at a grid point: row block `t`, and the whole of the gain. -/
theorem idx : ∀ t : Fin cfg0.N, win0_0.index t = ![t.val, 0] ∧ win0_1.index t = ![t.val, 0, 0] ∧ win0_2.index t = ![0, 0]
    ∧ win0_3.index t = ![t.val, 0] :=
  (by decide +kernel : ∀ t : Fin grid0.N, _)

/-- After the run the result array is the reference's term. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  unfold_payloads
  pointwise [REF]
  blk_point [iblk, V, idx t]

end Cert.Kernel4Ideal.Final
-- ==== Proof.InProjRead.lean ====
module

public import proofs.«01_k».proof.Proof.Gen.Kernel2Ideal.Frame
public import proofs.«01_k».proof.Proof.Gen.Reference2Ideal.Run
public import Idealize.ShloMosaic.Lib.Claim
public import Idealize.ShloMosaic.Lib.StableHlo.RunRead
public import Idealize.ShloMosaic.Lib.Pointwise
public import Idealize.ShloMosaic.Lib.Pipeline.ValueKit

/-!
The in-projection: the rows of the residual stream are normalised and multiplied by the input weights, and the first
sixteen lanes of every query and key head are turned by the row's position. Each grid point does it for 512 rows, with
the weights' columns put in another order, and turns the lanes by two rotations of the whole row against tables
of cosines and signed sines; the reference does it for the whole arrays, head by head.
-/

@[expose] public section

set_option maxRecDepth 65536

noncomputable section

open Idealize.ShloMosaic Idealize.ShloMosaic.TcCoe Idealize.SL.Sem
open Idealize.ShloMosaic.Pipeline (Dat)

namespace Cert.Reference2Ideal.InProj

open Cert.Reference2Ideal Cert.Reference2Ideal.Gen

/-- The normalised rows by the input weights. -/
def PROJ (x : FVec Ideal S16x2048x1024 .f32) (gain : FVec Ideal S1024 .f32) (w : FVec Ideal S1024x4352 .f32) :
    FVec Ideal S16x2048x4352 .f32 :=
  Host.dotGeneral dot_S16x2048x1024_S1024x4352_S16x2048x4352_2_0_01_1_n_n none (mulf (mulf x (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf x x) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 gain))) w

/-- The angle of every position and frequency. -/
def ANGLE (pos : Vec Ideal S16x2048 .i32) : FVec Ideal S16x2048x8 .f32 :=
  mulf (broadcastInDim S16x2048x8 ![0, 1, 2] bcast_S16x2048x1_S16x2048x8_0_1_2 (broadcastInDim S16x2048x1 ![0, 1] bcast_S16x2048_S16x2048x1_0_1 (sitofp .f32 pos))) (broadcastInDim S16x2048x8 ![0, 1, 2] bcast_S1x1x8_S16x2048x8_0_1_2 (broadcastInDim S1x1x8 ![2] bcast_S8_S1x1x8_2 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))

/-- The query heads with their first lanes turned. -/
def heads (p : FVec Ideal S16x2048x4352 .f32) (a : FVec Ideal S16x2048x8 .f32) : FVec Ideal S32768x512 .f32 :=
  shapeCast _ (concatenate S16x2048x8x64 3 [⟨S16x2048x8x16, (concatenate S16x2048x8x16 3 [⟨S16x2048x8x8, (subf (mulf (extractStridedSlice S16x2048x8x8 ![0, 0, 0, 0] (shapeCast _ (extractStridedSlice S16x2048x512 ![0, 0, 0] p slices_S16x2048x4352_S16x2048x512_0_0_0) shapeCasts_S16x2048x512_S16x2048x8x64) slices_S16x2048x8x64_S16x2048x8x8_0_0_0_0) (broadcastInDim S16x2048x8x8 ![0, 1, 2, 3] bcast_S16x2048x1x8_S16x2048x8x8_0_1_2_3 (broadcastInDim S16x2048x1x8 ![0, 1, 3] bcast_S16x2048x8_S16x2048x1x8_0_1_3 (Host.cos a)))) (mulf (extractStridedSlice S16x2048x8x8 ![0, 0, 0, 8] (shapeCast _ (extractStridedSlice S16x2048x512 ![0, 0, 0] p slices_S16x2048x4352_S16x2048x512_0_0_0) shapeCasts_S16x2048x512_S16x2048x8x64) slices_S16x2048x8x64_S16x2048x8x8_0_0_0_8) (broadcastInDim S16x2048x8x8 ![0, 1, 2, 3] bcast_S16x2048x1x8_S16x2048x8x8_0_1_2_3 (broadcastInDim S16x2048x1x8 ![0, 1, 3] bcast_S16x2048x8_S16x2048x1x8_0_1_3 (Host.sin a)))))⟩, ⟨S16x2048x8x8, (addf (mulf (extractStridedSlice S16x2048x8x8 ![0, 0, 0, 8] (shapeCast _ (extractStridedSlice S16x2048x512 ![0, 0, 0] p slices_S16x2048x4352_S16x2048x512_0_0_0) shapeCasts_S16x2048x512_S16x2048x8x64) slices_S16x2048x8x64_S16x2048x8x8_0_0_0_8) (broadcastInDim S16x2048x8x8 ![0, 1, 2, 3] bcast_S16x2048x1x8_S16x2048x8x8_0_1_2_3 (broadcastInDim S16x2048x1x8 ![0, 1, 3] bcast_S16x2048x8_S16x2048x1x8_0_1_3 (Host.cos a)))) (mulf (extractStridedSlice S16x2048x8x8 ![0, 0, 0, 0] (shapeCast _ (extractStridedSlice S16x2048x512 ![0, 0, 0] p slices_S16x2048x4352_S16x2048x512_0_0_0) shapeCasts_S16x2048x512_S16x2048x8x64) slices_S16x2048x8x64_S16x2048x8x8_0_0_0_0) (broadcastInDim S16x2048x8x8 ![0, 1, 2, 3] bcast_S16x2048x1x8_S16x2048x8x8_0_1_2_3 (broadcastInDim S16x2048x1x8 ![0, 1, 3] bcast_S16x2048x8_S16x2048x1x8_0_1_3 (Host.sin a)))))⟩] concatenates_S16x2048x8x8_S16x2048x8x8_S16x2048x8x16_d3)⟩, ⟨S16x2048x8x48, (extractStridedSlice S16x2048x8x48 ![0, 0, 0, 16] (shapeCast _ (extractStridedSlice S16x2048x512 ![0, 0, 0] p slices_S16x2048x4352_S16x2048x512_0_0_0) shapeCasts_S16x2048x512_S16x2048x8x64) slices_S16x2048x8x64_S16x2048x8x48_0_0_0_16)⟩] concatenates_S16x2048x8x16_S16x2048x8x48_S16x2048x8x64_d3) shapeCasts_S16x2048x8x64_S32768x512

/-- The key heads with their first lanes turned. -/
def keys (p : FVec Ideal S16x2048x4352 .f32) (a : FVec Ideal S16x2048x8 .f32) : FVec Ideal S32768x128 .f32 :=
  shapeCast _ (concatenate S16x2048x2x64 3 [⟨S16x2048x2x16, (concatenate S16x2048x2x16 3 [⟨S16x2048x2x8, (subf (mulf (extractStridedSlice S16x2048x2x8 ![0, 0, 0, 0] (shapeCast _ (extractStridedSlice S16x2048x128 ![0, 0, 512] p slices_S16x2048x4352_S16x2048x128_0_0_512) shapeCasts_S16x2048x128_S16x2048x2x64) slices_S16x2048x2x64_S16x2048x2x8_0_0_0_0) (broadcastInDim S16x2048x2x8 ![0, 1, 2, 3] bcast_S16x2048x1x8_S16x2048x2x8_0_1_2_3 (broadcastInDim S16x2048x1x8 ![0, 1, 3] bcast_S16x2048x8_S16x2048x1x8_0_1_3 (Host.cos a)))) (mulf (extractStridedSlice S16x2048x2x8 ![0, 0, 0, 8] (shapeCast _ (extractStridedSlice S16x2048x128 ![0, 0, 512] p slices_S16x2048x4352_S16x2048x128_0_0_512) shapeCasts_S16x2048x128_S16x2048x2x64) slices_S16x2048x2x64_S16x2048x2x8_0_0_0_8) (broadcastInDim S16x2048x2x8 ![0, 1, 2, 3] bcast_S16x2048x1x8_S16x2048x2x8_0_1_2_3 (broadcastInDim S16x2048x1x8 ![0, 1, 3] bcast_S16x2048x8_S16x2048x1x8_0_1_3 (Host.sin a)))))⟩, ⟨S16x2048x2x8, (addf (mulf (extractStridedSlice S16x2048x2x8 ![0, 0, 0, 8] (shapeCast _ (extractStridedSlice S16x2048x128 ![0, 0, 512] p slices_S16x2048x4352_S16x2048x128_0_0_512) shapeCasts_S16x2048x128_S16x2048x2x64) slices_S16x2048x2x64_S16x2048x2x8_0_0_0_8) (broadcastInDim S16x2048x2x8 ![0, 1, 2, 3] bcast_S16x2048x1x8_S16x2048x2x8_0_1_2_3 (broadcastInDim S16x2048x1x8 ![0, 1, 3] bcast_S16x2048x8_S16x2048x1x8_0_1_3 (Host.cos a)))) (mulf (extractStridedSlice S16x2048x2x8 ![0, 0, 0, 0] (shapeCast _ (extractStridedSlice S16x2048x128 ![0, 0, 512] p slices_S16x2048x4352_S16x2048x128_0_0_512) shapeCasts_S16x2048x128_S16x2048x2x64) slices_S16x2048x2x64_S16x2048x2x8_0_0_0_0) (broadcastInDim S16x2048x2x8 ![0, 1, 2, 3] bcast_S16x2048x1x8_S16x2048x2x8_0_1_2_3 (broadcastInDim S16x2048x1x8 ![0, 1, 3] bcast_S16x2048x8_S16x2048x1x8_0_1_3 (Host.sin a)))))⟩] concatenates_S16x2048x2x8_S16x2048x2x8_S16x2048x2x16_d3)⟩, ⟨S16x2048x2x48, (extractStridedSlice S16x2048x2x48 ![0, 0, 0, 16] (shapeCast _ (extractStridedSlice S16x2048x128 ![0, 0, 512] p slices_S16x2048x4352_S16x2048x128_0_0_512) shapeCasts_S16x2048x128_S16x2048x2x64) slices_S16x2048x2x64_S16x2048x2x48_0_0_0_16)⟩] concatenates_S16x2048x2x16_S16x2048x2x48_S16x2048x2x64_d3) shapeCasts_S16x2048x2x64_S32768x128

/-- The reference's result: gates, hyena branch, queries, keys and values side by side. -/
def JOIN (p : FVec Ideal S16x2048x4352 .f32) (a : FVec Ideal S16x2048x8 .f32) : FVec Ideal S32768x4352 .f32 :=
  concatenate S32768x4352 1 [⟨S32768x2048, ((shapeCast _ (extractStridedSlice S16x2048x2048 ![0, 0, 2304] p slices_S16x2048x4352_S16x2048x2048_0_0_2304) shapeCasts_S16x2048x2048_S32768x2048) : FVec Ideal S32768x2048 .f32)⟩, ⟨S32768x1536, ((shapeCast _ (extractStridedSlice S16x2048x1536 ![0, 0, 768] p slices_S16x2048x4352_S16x2048x1536_0_0_768) shapeCasts_S16x2048x1536_S32768x1536) : FVec Ideal S32768x1536 .f32)⟩, ⟨S32768x512, (heads p a : FVec Ideal S32768x512 .f32)⟩, ⟨S32768x128, (keys p a : FVec Ideal S32768x128 .f32)⟩, ⟨S32768x128, ((shapeCast _ (extractStridedSlice S16x2048x128 ![0, 0, 640] p slices_S16x2048x4352_S16x2048x128_0_0_640) shapeCasts_S16x2048x128_S32768x128) : FVec Ideal S32768x128 .f32)⟩] concatenates_S32768x2048_S32768x1536_S32768x512_S32768x128_S32768x128_S32768x4352_d1

/-- The reference's result of its arguments. -/
theorem res_join (m : (ℓ : Loc nD τ sig) → Buf (Elt Ideal) ℓ) (c : Dev nD) : Cert.Reference2Ideal.Value.res_main_v76 m c
    = JOIN (PROJ (m ((c.tc : Thread nD τ).loc main_arg0)) (m ((c.tc : Thread nD τ).loc main_arg2)) (m ((c.tc : Thread nD τ).loc main_arg3)))
      (ANGLE (m ((c.tc : Thread nD τ).loc main_arg1))) := rfl

end Cert.Reference2Ideal.InProj

namespace Cert.Kernel2Ideal.InProj

open Cert.Kernel2Ideal Cert.Kernel2Ideal.Gen Cert.Reference2Ideal.InProj

variable (m : (ℓ : Loc nD τ sig) → Buf (Elt Ideal) ℓ)

/-- The column of the weights that stands at column `j` of the reordered weights. -/
def col (j : Fin 4352) : Fin 4352 :=
  ⟨if j.val < 2048 then j.val + 2304 else if j.val < 3584 then j.val - 2048 + 768 else if j.val < 4224 then j.val - 3584
    else j.val - 4224 + 640, by have := j.isLt; split_ifs <;> omega⟩

/-- The reordered weights: gates, hyena branch, queries, keys, values. -/
def WEIGHT (w : FVec Ideal S1024x4352 .f32) : FVec Ideal S1024x4352 .bf16 :=
  truncf .bf16 (concatenate S1024x4352 1 [⟨S1024x2048, (extractStridedSlice S1024x2048 ![0, 2304] w slices_S1024x4352_S1024x2048_0_2304 : FVec Ideal S1024x2048 .f32)⟩, ⟨S1024x1536, (extractStridedSlice S1024x1536 ![0, 768] w slices_S1024x4352_S1024x1536_0_768 : FVec Ideal S1024x1536 .f32)⟩, ⟨S1024x512, (extractStridedSlice S1024x512 ![0, 0] w slices_S1024x4352_S1024x512_0_0 : FVec Ideal S1024x512 .f32)⟩, ⟨S1024x128, (extractStridedSlice S1024x128 ![0, 512] w slices_S1024x4352_S1024x128_0_512 : FVec Ideal S1024x128 .f32)⟩, ⟨S1024x128, (extractStridedSlice S1024x128 ![0, 640] w slices_S1024x4352_S1024x128_0_640 : FVec Ideal S1024x128 .f32)⟩] concatenates_S1024x2048_S1024x1536_S1024x512_S1024x128_S1024x128_S1024x4352_d1 : FVec Ideal S1024x4352 .f32) bitsLt_bf16_f32

/-- The rows of the reference's angles, as one array. -/
def ROWS (pos : Vec Ideal S16x2048 .i32) : FVec Ideal S32768x8 .f32 :=
  mulf (broadcastInDim S32768x8 ![0, 1] bcast_S32768x1_S32768x8_0_1 (broadcastInDim S32768x1 ![0] bcast_S32768_S32768x1_0 (sitofp .f32 (shapeCast S32768 pos shapeCasts_S16x2048_S32768)))) (broadcastInDim S32768x8 ![0, 1] bcast_S1x8_S32768x8_0_1 (broadcastInDim S1x8 ![1] bcast_S8_S1x8_1 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))

/-- A table of 128 lanes: two copies of the same 64 lanes, of which the first 16 are two given pieces of eight lanes
and the others a constant. -/
def TABLE (first second : FVec Ideal S32768x8 .f32) (fill : BitVec 32) : FVec Ideal S32768x128 .f32 :=
  shapeCast S32768x128 (broadcastInDim S1x32768x2x64 ![0, 1, 2, 3] bcast_S1x32768x1x64_S1x32768x2x64_0_1_2_3 (shapeCast S1x32768x1x64 (concatenate S32768x64 1 [⟨S32768x8, first⟩, ⟨S32768x8, second⟩, ⟨S32768x48, (broadcastInDim S32768x48 ![] bcast_S_S32768x48 (constant S_ .f32 fill) : FVec Ideal S32768x48 .f32)⟩] concatenates_S32768x8_S32768x8_S32768x48_S32768x64_d1 : FVec Ideal S32768x64 .f32) shapeCasts_S32768x64_S1x32768x1x64)) shapeCasts_S1x32768x2x64_S32768x128

/-- The rows of the residual stream, as one array. -/
def RESID (x : FVec Ideal S16x2048x1024 .f32) : FVec Ideal S32768x1024 .f32 :=
  shapeCast S32768x1024 x shapeCasts_S16x2048x1024_S32768x1024

/-- Eight lanes of zeros. -/
def ZEROS : FVec Ideal S32768x8 .f32 := broadcastInDim S32768x8 ![] bcast_S_S32768x8 (constant S_ .f32 0x00000000#32)

/-- The rows of the residual stream as the region finds them. -/
theorem entry0 (c : Dev nD) : V m c (Pipeline.arrRef spec0 0) = RESID (m ((c : Thread nD τ).loc main_arg0)) := by
  change StableHlo.after hostOps0 (fun b => m (c, b)) (Proc.devRef .tc main_v36) = _
  after_reads_simp
  rfl

/-- The gains as the region finds them. -/
theorem entry1 (c : Dev nD) : V m c (Pipeline.arrRef spec0 1) = (broadcastInDim S1x1024 ![1] bcast_S1024_S1x1024_1 (m ((c : Thread nD τ).loc main_arg2) : FVec Ideal S1024 .f32) : FVec Ideal S1x1024 .f32) := by
  change StableHlo.after hostOps0 (fun b => m (c, b)) (Proc.devRef .tc main_v37) = _
  after_reads_simp

/-- The weights as the region finds them. -/
theorem entry2 (c : Dev nD) : V m c (Pipeline.arrRef spec0 2) = WEIGHT (m ((c : Thread nD τ).loc main_arg3)) := by
  change StableHlo.after hostOps0 (fun b => m (c, b)) (Proc.devRef .tc main_v44) = _
  after_reads_simp
  rfl

/-- The table of cosines as the region finds it. -/
theorem entry3 (c : Dev nD) : V m c (Pipeline.arrRef spec0 3)
    = TABLE (Host.cos (ROWS (m ((c : Thread nD τ).loc main_arg1)))) (Host.cos (ROWS (m ((c : Thread nD τ).loc main_arg1)))) 0x3F800000#32 := by
  change StableHlo.after hostOps0 (fun b => m (c, b)) (Proc.devRef .tc main_v25) = _
  after_reads_simp
  rfl

/-- The table of negated sines as the region finds it. -/
theorem entry4 (c : Dev nD) : V m c (Pipeline.arrRef spec0 4)
    = TABLE (Host.negf (Host.sin (ROWS (m ((c : Thread nD τ).loc main_arg1))))) ZEROS 0x00000000#32 := by
  change StableHlo.after hostOps0 (fun b => m (c, b)) (Proc.devRef .tc main_v30) = _
  after_reads_simp
  rfl

/-- The table of sines as the region finds it. -/
theorem entry5 (c : Dev nD) : V m c (Pipeline.arrRef spec0 5)
    = TABLE ZEROS (Host.sin (ROWS (m ((c : Thread nD τ).loc main_arg1)))) 0x00000000#32 := by
  change StableHlo.after hostOps0 (fun b => m (c, b)) (Proc.devRef .tc main_v35) = _
  after_reads_simp
  rfl

/-- The rows of the residual stream at an index. -/
theorem resid_at (x : FVec Ideal S16x2048x1024 .f32) (r : Fin 32768) (k : Fin 1024) :
    RESID x (ix2 r k) = x (ix3 ⟨r.val / 2048, by omega⟩ ⟨r.val % 2048, by omega⟩ k) := by
  pointwise [RESID]

/-- The reordered weights at an index. -/
theorem weight_of (w : FVec Ideal S1024x4352 .f32) (k : Fin 1024) (j : Fin 4352) : WEIGHT w (ix2 k j) = w (ix2 k (col j)) := by
  unfold col
  pointwise [WEIGHT]
  blk_point [] <;> (split_ifs <;> omega)

/-- A table at an index. -/
theorem table_at (A B : FVec Ideal S32768x8 .f32) (fill : BitVec 32) (r : Fin 32768) (l : Fin 128) :
    TABLE A B fill (ix2 r l) = if h : l.val % 64 < 8 then A (ix2 r ⟨l.val % 64, h⟩) else
      if h : l.val % 64 < 16 then B (ix2 r ⟨l.val % 64 - 8, by omega⟩) else Ideal.ofBits .f32 fill := by
  pointwise [TABLE]
  blk_point [] <;> omega

/-- The angles by rows are the reference's by sequence and position. -/
theorem rows_at (pos : Vec Ideal S16x2048 .i32) (r : Fin 32768) (e : Fin 8) :
    ROWS pos (ix2 r e) = ANGLE pos (ix3 ⟨r.val / 2048, by omega⟩ ⟨r.val % 2048, by omega⟩ e) := by
  pointwise [ROWS, ANGLE]

/-- The reference's result outside the queries and keys: the projection at another column. -/
theorem join_plain (p : FVec Ideal Cert.Reference2Ideal.S16x2048x4352 .f32) (a : FVec Ideal Cert.Reference2Ideal.S16x2048x8 .f32)
    (r : Fin 32768) (j : Fin 4352) (hj : j.val < 3584 ∨ 4224 ≤ j.val) :
    JOIN p a (ix2 r j) = p (ix3 ⟨r.val / 2048, by omega⟩ ⟨r.val % 2048, by omega⟩ (col j)) := by
  unfold col
  have hjl := j.isLt
  pointwise [JOIN]
  split_ifs <;> first
    | (exfalso; omega)
    | (refine congrArg p (congrArg (ix3 _ _) (Fin.ext ?_)); dsimp only; (try split_ifs) <;> omega)

/-- A turned lane of the queries and keys. -/
def TURN (p : Fin 640 → EReal) (cos sin : Fin 8 → EReal) (e : Fin 640) : EReal :=
  if h : e.val % 64 < 8 then p e * cos ⟨e.val % 64, h⟩ - p ⟨e.val + 8, by omega⟩ * sin ⟨e.val % 64, h⟩ else
  if h : e.val % 64 < 16 then p e * cos ⟨e.val % 64 - 8, by omega⟩ + p ⟨e.val - 8, by omega⟩ * sin ⟨e.val % 64 - 8, by omega⟩ else p e

/-- The query heads at an index. -/
theorem heads_at (p : FVec Ideal Cert.Reference2Ideal.S16x2048x4352 .f32) (a : FVec Ideal Cert.Reference2Ideal.S16x2048x8 .f32)
    (r : Fin 32768) (j : Fin 512) (e : Fin 640) (he : e.val = j.val) :
    heads p a (ix2 r j) = TURN (fun e => p (ix3 ⟨r.val / 2048, by omega⟩ ⟨r.val % 2048, by omega⟩ ⟨e.val, by omega⟩))
      (fun i => Ideal.cos (a (ix3 ⟨r.val / 2048, by omega⟩ ⟨r.val % 2048, by omega⟩ i)))
      (fun i => Ideal.sin (a (ix3 ⟨r.val / 2048, by omega⟩ ⟨r.val % 2048, by omega⟩ i))) e := by
  unfold TURN
  have hj := j.isLt
  pointwise [heads]
  blk_point [he] <;> omega

/-- The key heads at an index. -/
theorem keys_at (p : FVec Ideal Cert.Reference2Ideal.S16x2048x4352 .f32) (a : FVec Ideal Cert.Reference2Ideal.S16x2048x8 .f32)
    (r : Fin 32768) (j : Fin 128) (e : Fin 640) (he : e.val = 512 + j.val) :
    keys p a (ix2 r j) = TURN (fun e => p (ix3 ⟨r.val / 2048, by omega⟩ ⟨r.val % 2048, by omega⟩ ⟨e.val, by omega⟩))
      (fun i => Ideal.cos (a (ix3 ⟨r.val / 2048, by omega⟩ ⟨r.val % 2048, by omega⟩ i)))
      (fun i => Ideal.sin (a (ix3 ⟨r.val / 2048, by omega⟩ ⟨r.val % 2048, by omega⟩ i))) e := by
  unfold TURN
  have hj := j.isLt
  pointwise [keys]
  blk_point [he] <;> omega

/-- The reference's queries and keys: the turned lanes. -/
theorem join_turn (p : FVec Ideal Cert.Reference2Ideal.S16x2048x4352 .f32) (a : FVec Ideal Cert.Reference2Ideal.S16x2048x8 .f32)
    (r : Fin 32768) (e : Fin 640) (j : Fin 4352) (hj : j.val = 3584 + e.val) :
    JOIN p a (ix2 r j) = TURN (fun e => p (ix3 ⟨r.val / 2048, by omega⟩ ⟨r.val % 2048, by omega⟩ ⟨e.val, by omega⟩))
      (fun i => Ideal.cos (a (ix3 ⟨r.val / 2048, by omega⟩ ⟨r.val % 2048, by omega⟩ i)))
      (fun i => Ideal.sin (a (ix3 ⟨r.val / 2048, by omega⟩ ⟨r.val % 2048, by omega⟩ i))) e := by
  have he := e.isLt
  pointwise [JOIN]
  rw [dif_neg (by omega), dif_neg (by omega)]
  by_cases h : e.val < 512
  · rw [dif_pos (by omega), heads_at p a r _ e (by dsimp only; omega)]
  · rw [dif_neg (by omega), dif_pos (by omega), keys_at p a r _ e (by dsimp only; omega)]

/-- The three products of the rotated rows with the tables: the turned lanes. -/
theorem turn_of (p : Fin 640 → EReal) (cos sin : Fin 8 → EReal) (e : Fin 640) :
    p e * (if h : e.val % 64 < 8 then cos ⟨e.val % 64, h⟩ else if h : e.val % 64 < 16 then cos ⟨e.val % 64 - 8, by omega⟩ else 1)
      + p ⟨(e.val + 8) % 640, by omega⟩ * (if h : e.val % 64 < 8 then -sin ⟨e.val % 64, h⟩ else 0)
      + p ⟨(e.val + 632) % 640, by omega⟩ * (if h : e.val % 64 < 8 then 0 else if h : e.val % 64 < 16 then sin ⟨e.val % 64 - 8, by omega⟩ else 0)
      = TURN p cos sin e := by
  unfold TURN
  have he := e.isLt
  by_cases h : e.val % 64 < 8
  · simp only [dif_pos h, mul_zero, add_zero, mul_neg, sub_eq_add_neg]
    have : (e.val + 8) % 640 = e.val + 8 := by omega
    simp only [this]
  · by_cases h' : e.val % 64 < 16
    · simp only [dif_neg h, dif_pos h', mul_zero, add_zero]
      have : (e.val + 632) % 640 = e.val - 8 := by omega
      simp only [this]
    · simp only [dif_neg h, dif_neg h', mul_zero, add_zero, mul_one]

end Cert.Kernel2Ideal.InProj
-- ==== Proof.InProj.lean ====
module

public import proofs.«01_k».proof.Proof.InProjRead
public import Idealize.ShloMosaic.Lib.Claim
public import Idealize.ShloMosaic.Lib.Pointwise
public import Idealize.ShloMosaic.Lib.Pipeline.ValueKit

/-!
The in-projection: what a grid point computes, and the array after the run.
-/

@[expose] public section

set_option maxRecDepth 16384

noncomputable section

open Idealize.ShloMosaic Idealize.ShloMosaic.TcCoe Idealize.SL.Sem
open Idealize.ShloMosaic.Pipeline (Dat)

namespace Cert.Kernel2Ideal.InProj

open Cert.Kernel2Ideal Cert.Kernel2Ideal.Gen Cert.Reference2Ideal.InProj

variable (m : (ℓ : Loc nD τ sig) → Buf (Elt Ideal) ℓ)

/-- The block that every window takes at a grid point: row block `t` of the row-tiled arrays, the whole of the others. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

/-- Row `r` of block `t` is a row of the array. -/
theorem row_lt (t : Fin cfg0.N) (r : Fin 512) : t.val * 512 + r.val < 32768 := by
  have h : t.val < 64 := t.isLt
  omega

/-- The sequence that row `r` of block `t` belongs to. -/
abbrev seqOf (t : Fin cfg0.N) (r : Fin 512) : Fin 16 := ⟨(t.val * 512 + r.val) / 2048, by have := row_lt t r; omega⟩

/-- The position of row `r` of block `t` in its sequence. -/
abbrev posOf (t : Fin cfg0.N) (r : Fin 512) : Fin 2048 := ⟨(t.val * 512 + r.val) % 2048, by omega⟩

/-- The reference's projection over this program's arguments. -/
abbrev PK (c : Dev nD) : FVec Ideal Cert.Reference2Ideal.S16x2048x4352 .f32 :=
  PROJ (m ((c : Thread nD τ).loc main_arg0)) (m ((c : Thread nD τ).loc main_arg2)) (m ((c : Thread nD τ).loc main_arg3))

/-- The reference's angles over this program's arguments. -/
abbrev AK (c : Dev nD) : FVec Ideal Cert.Reference2Ideal.S16x2048x8 .f32 := ANGLE (m ((c : Thread nD τ).loc main_arg1))

/-- A block of the rows of the residual stream at an index. -/
theorem x_at (c : Dev nD) (t : Fin cfg0.N) (r : Fin 512) (k : Fin 1024) :
    iblk m c 0 t (ix2 r k) = (m ((c : Thread nD τ).loc main_arg0) : FVec Ideal S16x2048x1024 .f32) (ix3 (seqOf t r) (posOf t r) k) := by
  unfold iblk
  rw [entry0]
  refine Eq.trans ?_ (resid_at (m ((c : Thread nD τ).loc main_arg0)) ⟨t.val * 512 + r.val, row_lt t r⟩ k)
  generalize RESID (m ((c : Thread nD τ).loc main_arg0)) = w
  blk_simp [idx t]
  blk_ext [idx t]

/-- The gains at an index. -/
theorem gain_at (c : Dev nD) (t : Fin cfg0.N) (k : Fin 1024) :
    iblk m c 1 t (ix2 0 k) = (m ((c : Thread nD τ).loc main_arg2) : FVec Ideal S1024 .f32) (ix1 k) := by
  unfold iblk
  rw [entry1]
  generalize m ((c : Thread nD τ).loc main_arg2) = w
  blk_simp [idx t]
  pointwise
  blk_point [idx t]

/-- The block of weights at an index. -/
theorem weight_at (c : Dev nD) (t : Fin cfg0.N) (k : Fin 1024) (j : Fin 4352) :
    iblk m c 2 t (ix2 k j) = (m ((c : Thread nD τ).loc main_arg3) : FVec Ideal S1024x4352 .f32) (ix2 k (col j)) := by
  unfold iblk
  rw [entry2]
  refine Eq.trans ?_ (weight_of (m ((c : Thread nD τ).loc main_arg3)) k j)
  generalize WEIGHT (m ((c : Thread nD τ).loc main_arg3)) = w
  blk_simp [idx t]
  blk_ext [idx t]

/-- The block of cosines at an index. -/
theorem cos_at (c : Dev nD) (t : Fin cfg0.N) (r : Fin 512) (l : Fin 128) :
    iblk m c 3 t (ix2 r l) = if h : l.val % 64 < 8 then Ideal.cos (AK m c (ix3 (seqOf t r) (posOf t r) ⟨l.val % 64, h⟩)) else
      if h : l.val % 64 < 16 then Ideal.cos (AK m c (ix3 (seqOf t r) (posOf t r) ⟨l.val % 64 - 8, by omega⟩)) else (1 : EReal) := by
  have e : iblk m c 3 t (ix2 r l) = TABLE (Host.cos (ROWS (m ((c : Thread nD τ).loc main_arg1)))) (Host.cos (ROWS (m ((c : Thread nD τ).loc main_arg1)))) 0x3F800000#32 (ix2 ⟨t.val * 512 + r.val, row_lt t r⟩ l) := by
    unfold iblk
    rw [entry3]
    generalize TABLE _ _ _ = w
    blk_simp [idx t]
    blk_ext [idx t]
  rw [e, table_at, Ideal.ofBits_one_f32]
  pointwise
  simp only [rows_at]

/-- The block of negated sines at an index. -/
theorem sin_neg_at (c : Dev nD) (t : Fin cfg0.N) (r : Fin 512) (l : Fin 128) :
    iblk m c 4 t (ix2 r l) = if h : l.val % 64 < 8 then -Ideal.sin (AK m c (ix3 (seqOf t r) (posOf t r) ⟨l.val % 64, h⟩)) else (0 : EReal) := by
  have e : iblk m c 4 t (ix2 r l) = TABLE (Host.negf (Host.sin (ROWS (m ((c : Thread nD τ).loc main_arg1))))) ZEROS 0x00000000#32 (ix2 ⟨t.val * 512 + r.val, row_lt t r⟩ l) := by
    unfold iblk
    rw [entry4]
    generalize TABLE _ _ _ = w
    blk_simp [idx t]
    blk_ext [idx t]
  rw [e, table_at, Ideal.ofBits_zero_f32]
  pointwise [ZEROS]
  simp only [rows_at]
  split_ifs <;> rfl

/-- The block of sines at an index. -/
theorem sin_at (c : Dev nD) (t : Fin cfg0.N) (r : Fin 512) (l : Fin 128) :
    iblk m c 5 t (ix2 r l) = if h : l.val % 64 < 8 then (0 : EReal) else if h : l.val % 64 < 16 then
      Ideal.sin (AK m c (ix3 (seqOf t r) (posOf t r) ⟨l.val % 64 - 8, by omega⟩)) else 0 := by
  have e : iblk m c 5 t (ix2 r l) = TABLE ZEROS (Host.sin (ROWS (m ((c : Thread nD τ).loc main_arg1)))) 0x00000000#32 (ix2 ⟨t.val * 512 + r.val, row_lt t r⟩ l) := by
    unfold iblk
    rw [entry5]
    generalize TABLE _ _ _ = w
    blk_simp [idx t]
    blk_ext [idx t]
  rw [e, table_at, Ideal.ofBits_zero_f32]
  pointwise [ZEROS]
  simp only [rows_at]

/-- A row's normalised values by a column of the reordered weights: the reference's projection. -/
theorem dot_at (c : Dev nD) (t : Fin cfg0.N) (r : Fin 512) (j : Fin 4352) :
    (∑ k : Fin 1024, k0_pay3 (F := Ideal) (iblk m c 0 t) (iblk m c 1 t) (ix2 r k) * (iblk m c 2 t (ix2 k j) : EReal))
      = PK m c (ix3 (seqOf t r) (posOf t r) (col j)) := by
  simp only [weight_at]
  pointwise [k0_pay3, PK, PROJ]
  simp only [x_at, gain_at]

/-- The rows by the weights of the queries and keys. -/
theorem turned_at (c : Dev nD) (t : Fin cfg0.N) (r : Fin 512) (e : Fin 640) :
    k0_pay5 (F := Ideal) (iblk m c 0 t) (iblk m c 1 t) (View.ld (iblk m c 2 t) (Rect.unit ![0, 3584] ![1024, 640] inb_S1024x4352_S1024x640_0_3584)) (ix2 r e)
      = PK m c (ix3 (seqOf t r) (posOf t r) ⟨e.val, by omega⟩) := by
  have h := dot_at m c t r ⟨3584 + e.val, by omega⟩
  have hc : col ⟨3584 + e.val, by omega⟩ = ⟨e.val, by omega⟩ := by
    unfold col
    ext
    have := e.isLt
    simp only
    split_ifs <;> omega
  rw [hc] at h
  rw [← h]
  pointwise [k0_pay5]

/-- A table repeated along the queries and keys, at an index. -/
theorem repeat_at (X : Vec Ideal S512x128 .f32) (r : Fin 512) (e : Fin 640) :
    k0_pay6 (F := Ideal) X (ix2 r e) = X (ix2 r ⟨e.val % 128, by omega⟩) := by
  pointwise [k0_pay6]
  blk_point [] <;> omega

/-- The products by the rotated rows, of any three tables, at an index. -/
theorem products (A : Vec Ideal S512x1024 .f32) (G : Vec Ideal S1x1024 .f32) (W : Vec Ideal S1024x640 .bf16)
    (C S1 S2 : Vec Ideal S512x128 .f32) (r : Fin 512) (e : Fin 640) :
    k0_pay1 (F := Ideal) (k0_pay5 A G W) (k0_pay6 S2) (k0_pay7 A G W C) (k0_pay8 A G W S1) (ix2 r e)
      = k0_pay5 A G W (ix2 r e) * C (ix2 r ⟨e.val % 128, by omega⟩)
        + k0_pay5 A G W (ix2 r ⟨(e.val + 8) % 640, by omega⟩) * S1 (ix2 r ⟨e.val % 128, by omega⟩)
        + k0_pay5 A G W (ix2 r ⟨(e.val + 632) % 640, by omega⟩) * S2 (ix2 r ⟨e.val % 128, by omega⟩) := by
  have h7 : k0_pay7 A G W C = mulf (k0_pay5 A G W) (k0_pay6 C) := rfl
  have h8 : k0_pay8 A G W S1 = mulf (dynamicRotate 1 632#32 none (k0_pay5 A G W) rotates_S512x640_d1) (k0_pay6 S1) := rfl
  rw [h7, h8]
  generalize k0_pay5 A G W = P
  rw [← repeat_at C, ← repeat_at S1, ← repeat_at S2]
  generalize k0_pay6 C = C'
  generalize k0_pay6 S1 = S1'
  generalize k0_pay6 S2 = S2'
  pointwise [k0_pay1]
  have h : e.val + 640 - 8 = e.val + 632 := by omega
  have h' : e.val + 640 - 632 = e.val + 8 := by omega
  simp only [h, h']

/-- What a point computes for the queries and keys. -/
theorem turn_at (c : Dev nD) (t : Fin cfg0.N) (r : Fin 512) (e : Fin 640) (j : Fin 4352) (hj : j.val = 3584 + e.val) :
    k0_pay1 (F := Ideal)
      (k0_pay5 (iblk m c 0 t) (iblk m c 1 t) (View.ld (iblk m c 2 t) (Rect.unit ![0, 3584] ![1024, 640] inb_S1024x4352_S1024x640_0_3584)))
      (k0_pay6 (iblk m c 5 t))
      (k0_pay7 (iblk m c 0 t) (iblk m c 1 t) (View.ld (iblk m c 2 t) (Rect.unit ![0, 3584] ![1024, 640] inb_S1024x4352_S1024x640_0_3584)) (iblk m c 3 t))
      (k0_pay8 (iblk m c 0 t) (iblk m c 1 t) (View.ld (iblk m c 2 t) (Rect.unit ![0, 3584] ![1024, 640] inb_S1024x4352_S1024x640_0_3584)) (iblk m c 4 t))
      (ix2 r e) = JOIN (PK m c) (AK m c) (ix2 ⟨t.val * 512 + r.val, row_lt t r⟩ j) := by
  rw [join_turn _ _ _ e j hj, ← turn_of]
  refine (products _ _ _ _ _ _ r e).trans ?_
  rw [turned_at, turned_at, turned_at, cos_at, sin_neg_at, sin_at]
  have h : e.val % 128 % 64 = e.val % 64 := by omega
  simp only [h]

/-- What a point computes for the other columns, as a product with the columns of the reordered weights. -/
theorem plain_at (c : Dev nD) (t : Fin cfg0.N) (r : Fin 512) (j : Fin 4352) (hj : j.val < 3584 ∨ 4224 ≤ j.val) :
    (∑ k : Fin 1024, k0_pay3 (F := Ideal) (iblk m c 0 t) (iblk m c 1 t) (ix2 r k) * (iblk m c 2 t (ix2 k j) : EReal))
      = JOIN (PK m c) (AK m c) (ix2 ⟨t.val * 512 + r.val, row_lt t r⟩ j) := by
  rw [dot_at, join_plain _ _ _ j hj]

/-- What a point computes, at a block index: the reference's value at the array index. -/
theorem point (c : Dev nD) (t : Fin cfg0.N) (y : S512x4352.Idx) :
    outsAt0 m c t y = JOIN (PK m c) (AK m c) (ix2 ⟨t.val * 512 + (y 0).val, row_lt t (y 0)⟩ (y 1)) := by
  unfold outsAt0
  frame_out
  canon_tiles x h using View.cover_of_tiledBy _ ![512, 128] (by sl_kernel_rfl) y
  · idx_vars x
    generalize y 0 = r at *
    generalize y 1 = j at *
    obtain rfl : r = x0 := Fin.ext h0
    have hb : 4224 + x1.val < 4352 := by omega
    obtain rfl : j = (⟨4224 + x1.val, hb⟩ : Fin 4352) := Fin.ext h1
    refine Eq.trans ?_ (plain_at m c t r ⟨4224 + x1.val, hb⟩ (Or.inr (Nat.le_add_right _ _)))
    pointwise [k0_pay2]
  · idx_vars x
    generalize y 0 = r at *
    generalize y 1 = j at *
    obtain rfl : r = x0 := Fin.ext h0
    exact turn_at m c t r x1 j h1
  · idx_vars x
    generalize y 0 = r at *
    generalize y 1 = j at *
    obtain rfl : r = x0 := Fin.ext h0
    have hb : x1.val < 4352 := by omega
    obtain rfl : j = (⟨x1.val, hb⟩ : Fin 4352) := Fin.ext h1
    refine Eq.trans ?_ (plain_at m c t r ⟨x1.val, hb⟩ (Or.inl x1_lt))
    pointwise [k0_pay4]

/-- After the run the result is the reference's. -/
theorem final (c : Dev nD) : (dats m 0 c).arrAt 6 (cfgs 0).N = JOIN (PK m c) (AK m c) := by
  refine (dats m 0 c).arrAt_eq_of_covers 6 _ (by decide +kernel) fun t _ y => ?_
  blk_simp
  rw [after0_6, point]
  blk_ext [idx t]

end Cert.Kernel2Ideal.InProj
-- ==== Proof.Softmax.lean ====
module

public import Idealize.ShloMosaic.Lib.IdealHost

/-!
The arithmetic of a softmax with a sink over the extended reals: where a factor may be moved across a sum, and why
the denominator is positive.
-/

@[expose] public section

noncomputable section

open Idealize.ShloMosaic

namespace Cert.Softmax

/-- The word of one eighth denotes one eighth. -/
theorem eighth : Ideal.ofBits .f32 0x3E000000#32 = ((1 / 8 : ℝ) : EReal) := by
  simp [Ideal.ofBits, Ideal.ieee, -EReal.coe_mul]; norm_num

/-- The word of plus infinity denotes plus infinity. -/
theorem infinity : Ideal.ofBits .f32 0x7F800000#32 = ⊤ := by
  simp [Ideal.ofBits, Ideal.ieee]

/-- The word of minus infinity denotes minus infinity. -/
theorem neg_infinity : Ideal.ofBits .f32 0xFF800000#32 = ⊥ := by
  simp [Ideal.ofBits, Ideal.ieee]

/-- A factor that is not negative and not infinite may be moved into a sum. -/
theorem sum_mul {n : ℕ} (f : Fin n → EReal) (r : EReal) (h0 : 0 ≤ r) (ht : r ≠ ⊤) : (∑ c, f c) * r = ∑ c, f c * r := by
  have h : ∀ s : Finset (Fin n), (∑ c ∈ s, f c) * r = ∑ c ∈ s, f c * r := by
    intro s
    induction s using Finset.cons_induction with
    | empty => simp
    | cons a s ha ih =>
      rw [Finset.sum_cons, Finset.sum_cons, ← ih, mul_comm, EReal.left_distrib_of_nonneg_of_ne_top h0 ht, mul_comm r, mul_comm r]
  exact h _

/-- The scale may be applied to the queries or to the scores. -/
theorem scale {n : ℕ} (k q : Fin n → EReal) :
    (∑ e, k e * (q e * Ideal.ofBits .f32 0x3E000000#32)) = (∑ e, k e * q e) * Ideal.ofBits .f32 0x3E000000#32 := by
  have h0 : (0 : EReal) ≤ ((1 / 8 : ℝ) : EReal) := by exact_mod_cast (by norm_num : (0 : ℝ) ≤ 1 / 8)
  rw [eighth, sum_mul _ _ h0 (EReal.coe_ne_top _)]
  exact Finset.sum_congr rfl fun e _ => (mul_assoc _ _ _).symm

/-- An exponential is not negative. -/
theorem exp_nonneg (x : EReal) : 0 ≤ Ideal.exp x := by
  induction x with
  | bot => simp
  | top => simp
  | coe r => rw [Ideal.exp_coe]; exact_mod_cast (Real.exp_pos r).le

/-- The exponential of a real number is positive. -/
theorem exp_pos (r : ℝ) : 0 < Ideal.exp (r : EReal) := by
  rw [Ideal.exp_coe]; exact_mod_cast Real.exp_pos r

/-- Dividing the weighted sum by the denominator is dividing the weights by it. -/
theorem normalise {n : ℕ} (v p : Fin n → EReal) (D : EReal) (hD : 0 < D) :
    (∑ c, v c * p c) * Ideal.div 1 D = ∑ c, v c * Ideal.div (p c) D := by
  have hne : D ≠ 0 := hD.ne'
  have h0 : (0 : EReal) ≤ D⁻¹ := EReal.inv_nonneg_of_nonneg hD.le
  have ht : D⁻¹ ≠ ⊤ := by
    induction D with
    | bot => simp
    | top => simp
    | coe r => rw [← EReal.coe_inv]; exact EReal.coe_ne_top _
  simp only [Ideal.div, if_neg hne, one_mul]
  rw [sum_mul _ _ h0 ht]
  exact Finset.sum_congr rfl fun e _ => mul_assoc _ _ _

/-- The greatest of some scores none of which is plus infinity, and of a sink that is real, is real. -/
theorem greatest {n : ℕ} (s : Fin n → EReal) (b : ℝ) (hs : ∀ c, s c ≠ ⊤) :
    ∃ r : ℝ, max (Finset.univ.fold max (⊥ : EReal) s) (b : EReal) = (r : EReal) := by
  have ht : Finset.univ.fold max (⊥ : EReal) s ≠ ⊤ := by
    have : Finset.univ.fold max (⊥ : EReal) s < ⊤ := by
      rw [Finset.fold_max_lt]
      exact ⟨bot_lt_top, fun c _ => lt_top_iff_ne_top.2 (hs c)⟩
    exact this.ne
  refine ⟨(max (Finset.univ.fold max (⊥ : EReal) s) (b : EReal)).toReal, (EReal.coe_toReal ?_ ?_).symm⟩
  · exact (max_lt (lt_top_iff_ne_top.2 ht) (EReal.coe_lt_top b)).ne
  · exact (lt_of_lt_of_le (EReal.bot_lt_coe b) (le_max_right _ _)).ne'

/-- The softmax with a sink: the weights divided by their denominator, or the weighted sum divided by it. -/
theorem softmax {n : ℕ} (v s : Fin n → EReal) (b : ℝ) (hs : ∀ c, s c ≠ ⊤) (m : EReal)
    (hm : m = max (Finset.univ.fold max (⊥ : EReal) s) (b : EReal)) :
    (∑ c, v c * Ideal.exp (s c - m)) * Ideal.div 1 ((∑ c, Ideal.exp (s c - m)) + Ideal.exp ((b : EReal) - m))
      = ∑ c, v c * Ideal.div (Ideal.exp (s c - m)) ((∑ c, Ideal.exp (s c - m)) + Ideal.exp ((b : EReal) - m)) := by
  obtain ⟨r, hr⟩ := greatest s b hs
  rw [hr] at hm
  subst hm
  refine normalise v (fun c => Ideal.exp (s c - r)) _ ?_
  refine lt_of_lt_of_le ?_ (le_add_of_nonneg_left (Finset.sum_nonneg fun c _ => exp_nonneg _))
  rw [← EReal.coe_sub]
  exact exp_pos _

/-- The greatest of the scores and of the sink. -/
def peak {n : ℕ} (s : Fin n → EReal) (b : EReal) : EReal := max (Finset.univ.fold max (⊥ : EReal) s) b

/-- The weights' sum, with the sink's. -/
def total {n : ℕ} (s : Fin n → EReal) (b : EReal) : EReal := (∑ c, Ideal.exp (s c - peak s b)) + Ideal.exp (b - peak s b)

/-- The weighted sum divided at the end. -/
def late {n : ℕ} (s v : Fin n → EReal) (b : EReal) : EReal := (∑ c, v c * Ideal.exp (s c - peak s b)) * Ideal.div 1 (total s b)

/-- The weighted sum of the divided weights. -/
def early {n : ℕ} (s v : Fin n → EReal) (b : EReal) : EReal := ∑ c, v c * Ideal.div (Ideal.exp (s c - peak s b)) (total s b)

/-- Dividing late or early is the same, and the values where the score is minus infinity don't count. -/
theorem late_early {n : ℕ} (s v w : Fin n → EReal) (b : ℝ) (hs : ∀ c, s c ≠ ⊤) (hv : ∀ c, s c = ⊥ ∨ v c = w c) :
    late s v b = early s w b := by
  have e : ∀ c, v c * Ideal.exp (s c - peak s b) = w c * Ideal.exp (s c - peak s b) := by
    intro c
    rcases hv c with h | h
    · obtain ⟨r, hr⟩ := greatest s b hs
      have : peak s b = (r : EReal) := hr
      rw [h, this, EReal.bot_sub, Ideal.exp_bot, mul_zero, mul_zero]
    · rw [h]
  unfold late early
  rw [Finset.sum_congr rfl fun c _ => e c]
  exact softmax w s b hs _ rfl

/-- A sum of real numbers, as an extended real. -/
theorem coe_sum {n : ℕ} (f : Fin n → ℝ) : ((∑ e, f e : ℝ) : EReal) = ∑ e, (f e : EReal) := by
  have h : ∀ s : Finset (Fin n), ((∑ e ∈ s, f e : ℝ) : EReal) = ∑ e ∈ s, (f e : EReal) := by
    intro s
    induction s using Finset.cons_induction with
    | empty => simp
    | cons a s ha ih => rw [Finset.sum_cons, Finset.sum_cons, EReal.coe_add, ih]
  exact h _

/-- A sum of products of real numbers, scaled, is not plus infinity. -/
theorem score_ne_top {n : ℕ} (k q : Fin n → EReal) (hk : ∀ e, ∃ r : ℝ, k e = r) (hq : ∀ e, ∃ r : ℝ, q e = r) :
    (∑ e, k e * q e) * Ideal.ofBits .f32 0x3E000000#32 ≠ ⊤ := by
  choose k' hk using hk
  choose q' hq using hq
  have : (∑ e, k e * q e) = ((∑ e, k' e * q' e : ℝ) : EReal) := by
    rw [coe_sum]
    exact Finset.sum_congr rfl fun e _ => by rw [hk, hq, EReal.coe_mul]
  rw [this, eighth, ← EReal.coe_mul]
  exact EReal.coe_ne_top _

/-- A value whose absolute value is below plus infinity is real. -/
theorem real_of_abs {x : EReal} (h : max x (-x) < ⊤) : ∃ r : ℝ, x = r := by
  induction x with
  | bot => simp at h
  | top => simp at h
  | coe r => exact ⟨r, rfl⟩

end Cert.Softmax
-- ==== Proof.AttnTile.lean ====
module

public import proofs.«01_k».proof.Proof.Gen.KernelIdeal.Frame
public import proofs.«01_k».proof.Proof.Softmax
public import Idealize.ShloMosaic.Lib.Claim
public import Idealize.ShloMosaic.Lib.Affine
public import Idealize.ShloMosaic.Lib.WordArith
public import Idealize.ShloMosaic.Lib.Pointwise
public import Idealize.ShloMosaic.Lib.Pipeline.ValueKit

/-!
The windowed attention: what one grid point computes from its blocks. A point holds two blocks of 128 queries and the
four blocks of 128 keys and values around them; the queries of the four heads that share a key head stand side by side,
so that a column of the scores is a head and a query.
-/

@[expose] public section

set_option maxRecDepth 65536

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Softmax

/-- The word of the mask denotes minus infinity. -/
theorem mask : Named.named (F := Ideal) (φ := .f32) κ "mask" 0xF149F2CA#32 = (⊥ : EReal) :=
  IdealRules.named_const.ideal_named_scalar κ "mask" (φ := .f32) 0xF149F2CA#32 ⊥ rfl

/-- The sink of the head that column `j` of the scores belongs to. -/
def sinkAt (a0 a1 a2 a3 : EReal) (j : Fin 512) : EReal :=
  if _h : j.val < 128 then a0 else if _h : j.val - 128 < 128 then a1 else if _h : j.val - 128 - 128 < 128 then a2 else a3

/-- First query block, first key head: the weighted sum at a lane and a column. -/
theorem out00 (v : FVec Ideal S128x384 .bf16) (S : FVec Ideal S384x512 .f32) (a0 a1 a2 a3 : Elt Ideal .f32)
    (d : Fin 64) (j : Fin 512) :
    k0_pay11 v S a0 a1 a2 a3 (ix2 d j)
      = late (fun c => S (ix2 c j)) (fun c => v (ix2 ⟨d.val, by omega⟩ c)) (sinkAt a0 a1 a2 a3 j) := by
  unfold late total peak sinkAt
  rw [← neg_infinity]
  pointwise [k0_pay11]

/-- First query block, second key head: the weighted sum at a lane and a column. -/
theorem out01 (b : IVec S384x512 1) (v : FVec Ideal S128x384 .bf16) (k : FVec Ideal S384x64 .bf16) (q : FVec Ideal S512x64 .bf16)
    (a0 a1 a2 a3 : Elt Ideal .f32) (d : Fin 64) (j : Fin 512) :
    k0_pay16 b v k q (constant S384x512 .f32 0x00000000#32) a0 a1 a2 a3 (ix2 d j)
      = late (fun c => if b (ix2 c j) = 1#1 then ∑ e, k (ix2 c e) * q (ix2 j e) else ⊥)
          (fun c => v (ix2 ⟨64 + d.val, by omega⟩ c)) (sinkAt a0 a1 a2 a3 j) := by
  unfold late total peak sinkAt
  pointwise [k0_pay16]
  simp only [mask, neg_infinity, Scalar.select]
  rfl

/-- Second query block, first key head: the weighted sum at a lane and a column. -/
theorem out10 (a : BitVec 32) (kv : FVec Ideal S512x256 .f32) (b b' : IVec S384x128 1) (q : Vec Ideal S128x512 .f32)
    (a0 a1 a2 a3 : Elt Ideal .f32) (d : Fin 64) (j : Fin 512) :
    k0_pay30 (k0_pay28 a kv b b' q a0 a1 a2 a3) (k0_pay29 a kv b b' q a0 a1 a2 a3) (ix2 d j)
      = late (fun c => k0_pay24 a kv b b' q (ix2 c j)) (fun c => kv (ix2 ⟨128 + c.val, by omega⟩ ⟨128 + d.val, by omega⟩))
          (sinkAt a0 a1 a2 a3 j) := by
  unfold late total peak sinkAt
  rw [← neg_infinity]
  pointwise [k0_pay30, k0_pay28, k0_pay29, k0_pay27, k0_pay26, k0_pay25, k0_pay23, k0_pay22]

/-- Second query block, second key head: the weighted sum at a lane and a column. -/
theorem out11 (v : FVec Ideal S128x384 .bf16) (b : IVec S384x512 1) (q : FVec Ideal S128x512 .f32) (k : FVec Ideal S384x256 .f32)
    (a0 a1 a2 a3 : Elt Ideal .f32) (d : Fin 64) (j : Fin 512) :
    k0_pay1 v (k0_pay36 b q k a0 a1 a2 a3) (k0_pay37 b q k a0 a1 a2 a3) (k0_pay38 b q k a0 a1 a2 a3) (ix2 d j)
      = late (fun c => k0_pay33 b q k (ix2 c j)) (fun c => v (ix2 ⟨64 + d.val, by omega⟩ c)) (sinkAt a0 a1 a2 a3 j) := by
  unfold late total peak sinkAt
  rw [← neg_infinity]
  pointwise [k0_pay1, k0_pay36, k0_pay37, k0_pay38, k0_pay35, k0_pay34]

/-- First query block, first key head: the score of key `c` at column `j`. -/
theorem score00 (i : grid0.Coords) (v0 : Vec Ideal S128x256 .f32) (v2 : Vec Ideal S256x256 .f32) (v4 : Vec Ideal S128x256 .f32)
    (q : Vec Ideal S128x512 .f32) (c : Fin 384) (j : Fin 512) :
    k0_pay10 i v0 v2 v4 q (ix2 c j) = if k0_pay6 i (ix2 c j) = 1#1 then
      ∑ e : Fin 64, k0_pay4 v0 v2 v4 (ix2 ⟨c.val, by omega⟩ ⟨e.val, by omega⟩)
        * ((q (ix2 ⟨j.val % 128, by omega⟩ ⟨j.val / 128 * 64 + e.val, by omega⟩) : EReal) * Ideal.ofBits .f32 0x3E000000#32) else ⊥ := by
  pointwise [k0_pay10, k0_pay8, k0_pay7]
  simp only [mask, Scalar.select]
  refine if_congr Iff.rfl (Finset.sum_congr rfl fun e _ => congrArg (HMul.hMul _) ?_) rfl
  blk_point [] <;> omega

/-- First query block: the queries of the second key head's heads, at a row of the stack. -/
theorem stack01 (q : Vec Ideal S128x512 .f32) (j : Fin 512) (e : Fin 64) :
    k0_pay15 (F := Ideal) (k0_pay7 q) (ix2 j e)
      = (q (ix2 ⟨j.val % 128, by omega⟩ ⟨256 + j.val / 128 * 64 + e.val, by omega⟩) : EReal) * Ideal.ofBits .f32 0x3E000000#32 := by
  pointwise [k0_pay15, k0_pay7]
  blk_point [] <;> omega

/-- First query block: the keys of the second key head. -/
theorem key01 (v0 : Vec Ideal S128x256 .f32) (v2 : Vec Ideal S256x256 .f32) (v4 : Vec Ideal S128x256 .f32) (c : Fin 384) (e : Fin 64) :
    k0_pay14 (F := Ideal) (k0_pay8 v0 v2 v4) (ix2 c e) = k0_pay4 v0 v2 v4 (ix2 ⟨c.val, by omega⟩ ⟨64 + e.val, by omega⟩) := by
  pointwise [k0_pay14, k0_pay8]

/-- First query block: the values. -/
theorem value0 (v0 : Vec Ideal S128x256 .f32) (v2 : Vec Ideal S256x256 .f32) (v4 : Vec Ideal S128x256 .f32) (d : Fin 128) (c : Fin 384) :
    k0_pay9 (F := Ideal) v0 v2 v4 (ix2 d c) = k0_pay4 v0 v2 v4 (ix2 ⟨c.val, by omega⟩ ⟨128 + d.val, by omega⟩) := by
  pointwise [k0_pay9, k0_pay8]

/-- Second query block: the values. -/
theorem value1 (kv : FVec Ideal S512x256 .f32) (d : Fin 128) (c : Fin 384) :
    k0_pay23 (F := Ideal) kv (ix2 d c) = kv (ix2 ⟨128 + c.val, by omega⟩ ⟨128 + d.val, by omega⟩) := by
  pointwise [k0_pay23, k0_pay22]

/-- Second query block, first key head: the score of key `c` at column `j`. -/
theorem score10 (a : BitVec 32) (kv : FVec Ideal S512x256 .f32) (b b' : IVec S384x128 1) (q : Vec Ideal S128x512 .f32)
    (c : Fin 384) (j : Fin 512) :
    k0_pay24 a kv b b' q (ix2 c j) = if k0_pay20 a b b' (ix2 c j) = 1#1 then
      ∑ e : Fin 64, kv (ix2 ⟨128 + c.val, by omega⟩ ⟨e.val, by omega⟩)
        * ((q (ix2 ⟨j.val % 128, by omega⟩ ⟨j.val / 128 * 64 + e.val, by omega⟩) : EReal) * Ideal.ofBits .f32 0x3E000000#32) else ⊥ := by
  pointwise [k0_pay24, k0_pay22, k0_pay21]
  simp only [mask, Scalar.select]
  refine if_congr Iff.rfl (Finset.sum_congr rfl fun e _ => congrArg (HMul.hMul _) ?_) rfl
  blk_point [] <;> omega

/-- Second query block, second key head: the score of key `c` at column `j`. -/
theorem score11 (b : IVec S384x512 1) (q : Vec Ideal S128x512 .f32) (kv : FVec Ideal S512x256 .f32) (c : Fin 384) (j : Fin 512) :
    k0_pay33 b (k0_pay21 q) (k0_pay22 kv) (ix2 c j) = if b (ix2 c j) = 1#1 then
      ∑ e : Fin 64, kv (ix2 ⟨128 + c.val, by omega⟩ ⟨64 + e.val, by omega⟩)
        * ((q (ix2 ⟨j.val % 128, by omega⟩ ⟨256 + j.val / 128 * 64 + e.val, by omega⟩) : EReal) * Ideal.ofBits .f32 0x3E000000#32) else ⊥ := by
  pointwise [k0_pay33, k0_pay22, k0_pay21]
  simp only [mask, Scalar.select]
  refine if_congr Iff.rfl (Finset.sum_congr rfl fun e _ => congrArg (HMul.hMul _) ?_) rfl
  blk_point [] <;> omega

/-- A small natural number as a signed word. -/
theorem word (n : ℕ) (h : n < 4096) : (BitVec.ofNat 32 n).toInt = n := WordArith.toInt_ofNat_small n (by omega)

/-- The difference of two small natural numbers as a signed word. -/
theorem word_sub (a b : ℕ) (ha : a < 4096) (hb : b < 4096) :
    (IntOp.subi (BitVec.ofNat 32 a) (BitVec.ofNat 32 b)).toInt = (a : Int) - b := by
  refine (WordArith.toInt_sub_of_bounds _ _ ?_ ?_).trans ?_ <;> rw [word a ha, word b hb] <;> omega

/-- The band of key positions that a query sees. -/
theorem band (c r : ℕ) (hc : c < 4096) (hr : r < 4096) :
    IntOp.andi (IntOp.cmpi .sge (IntOp.subi (BitVec.ofNat 32 c) (BitVec.ofNat 32 r)) 0#32)
      (IntOp.cmpi .sle (IntOp.subi (BitVec.ofNat 32 c) (BitVec.ofNat 32 r)) 256#32) = 1#1 ↔ r ≤ c ∧ c ≤ r + 256 := by
  rw [IntOp.andi_eq_one, IntOp.cmpi_sge, IntOp.cmpi_sle, word_sub c r hc hr, show (0#32 : BitVec 32).toInt = 0 by decide,
    show (256#32 : BitVec 32).toInt = 256 by decide]
  omega

/-- A small natural number that isn't below another, as words. -/
theorem ge_iff (c n : ℕ) (hc : c < 4096) (hn : n < 4096) : IntOp.cmpi .sge (BitVec.ofNat 32 c) (BitVec.ofNat 32 n) = 1#1 ↔ n ≤ c := by
  rw [IntOp.cmpi_sge, word c hc, word n hn]; omega

/-- A small natural number above another, as words. -/
theorem gt_iff (c n : ℕ) (hc : c < 4096) (hn : n < 4096) : IntOp.cmpi .sgt (BitVec.ofNat 32 c) (BitVec.ofNat 32 n) = 1#1 ↔ n < c := by
  rw [IntOp.cmpi_sgt, word c hc, word n hn]; omega

/-- A small natural number below another, as words. -/
theorem lt_iff (c n : ℕ) (hc : c < 4096) (hn : n < 4096) : IntOp.cmpi .slt (BitVec.ofNat 32 c) (BitVec.ofNat 32 n) = 1#1 ↔ c < n := by
  rw [IntOp.cmpi_slt, word c hc, word n hn]; omega

/-- First query block: which scores count. -/
theorem mask0 (i : grid0.Coords) (c : Fin 384) (j : Fin 512) : k0_pay6 i (ix2 c j) = 1#1
    ↔ (j.val % 128 ≤ c.val ∧ c.val ≤ j.val % 128 + 256 ∧ (128 ≤ c.val ∨ 0 < (i 1).val)) := by
  have hj := j.isLt
  have hc := c.isLt
  have hi : (i 1).val < 8 := (i 1).isLt
  pointwise [k0_pay6, k0_pay5]
  split_ifs <;> (rw [IntOp.andi_eq_one, band _ _ (by omega) (by omega), IntOp.ori_eq_one, ge_iff _ 128 (by omega) (by omega),
    Scalar.cmpi, gt_iff _ 0 (by omega) (by omega)]; omega)

/-- Second query block: which scores count. -/
theorem mask1 (n : Fin 8) (c : Fin 384) (j : Fin 512) :
    k0_pay20 (BitVec.ofNat 32 n.val) k0_pay5 (k0_pay19 (iota .tc S384x128 32 [0] iota_S384x128_d0_w32)) (ix2 c j) = 1#1
    ↔ (j.val % 128 ≤ c.val ∧ c.val ≤ j.val % 128 + 256 ∧ (c.val < 256 ∨ n.val < 7)) := by
  have hj := j.isLt
  have hc := c.isLt
  have hi := n.isLt
  pointwise [k0_pay20, k0_pay19, k0_pay5]
  split_ifs <;> (rw [IntOp.andi_eq_one, band _ _ (by omega) (by omega), IntOp.ori_eq_one, lt_iff _ 256 (by omega) (by omega),
    Scalar.cmpi, lt_iff _ 7 (by omega) (by omega)]; omega)

/-- First query block, first key head: the first pair of heads, a row for each query. -/
theorem pair000 (v : FVec Ideal S128x384 .bf16) (S : FVec Ideal S384x512 .f32) (a0 a1 a2 a3 : Elt Ideal .f32) (r l : Fin 128) :
    k0_pay12 (F := Ideal) v S a0 a1 a2 a3 (ix2 r l) = k0_pay11 (F := Ideal) v S a0 a1 a2 a3 (ix2 ⟨l.val % 64, by omega⟩ ⟨0 + l.val / 64 * 128 + r.val, by omega⟩) := by
  pointwise [k0_pay12]
  blk_point [] <;> omega

/-- First query block, first key head: the second pair of heads, a row for each query. -/
theorem pair001 (v : FVec Ideal S128x384 .bf16) (S : FVec Ideal S384x512 .f32) (a0 a1 a2 a3 : Elt Ideal .f32) (r l : Fin 128) :
    k0_pay13 (F := Ideal) v S a0 a1 a2 a3 (ix2 r l) = k0_pay11 (F := Ideal) v S a0 a1 a2 a3 (ix2 ⟨l.val % 64, by omega⟩ ⟨256 + l.val / 64 * 128 + r.val, by omega⟩) := by
  pointwise [k0_pay13]
  blk_point [] <;> omega

/-- First query block, second key head: the first pair of heads, a row for each query. -/
theorem pair010 (b : IVec S384x512 1) (v : FVec Ideal S128x384 .bf16) (k : FVec Ideal S384x64 .bf16) (q : FVec Ideal S512x64 .bf16) (z : FVec Ideal S384x512 .f32) (a0 a1 a2 a3 : Elt Ideal .f32) (r l : Fin 128) :
    k0_pay17 (F := Ideal) b v k q z a0 a1 a2 a3 (ix2 r l) = k0_pay16 (F := Ideal) b v k q z a0 a1 a2 a3 (ix2 ⟨l.val % 64, by omega⟩ ⟨0 + l.val / 64 * 128 + r.val, by omega⟩) := by
  pointwise [k0_pay17]
  blk_point [] <;> omega

/-- First query block, second key head: the second pair of heads, a row for each query. -/
theorem pair011 (b : IVec S384x512 1) (v : FVec Ideal S128x384 .bf16) (k : FVec Ideal S384x64 .bf16) (q : FVec Ideal S512x64 .bf16) (z : FVec Ideal S384x512 .f32) (a0 a1 a2 a3 : Elt Ideal .f32) (r l : Fin 128) :
    k0_pay18 (F := Ideal) b v k q z a0 a1 a2 a3 (ix2 r l) = k0_pay16 (F := Ideal) b v k q z a0 a1 a2 a3 (ix2 ⟨l.val % 64, by omega⟩ ⟨256 + l.val / 64 * 128 + r.val, by omega⟩) := by
  pointwise [k0_pay18]
  blk_point [] <;> omega

/-- Second query block, first key head: the first pair of heads, a row for each query. -/
theorem pair100 (D : FVec Ideal S1x512 .f32) (o : FVec Ideal S64x512 .f32) (r l : Fin 128) :
    k0_pay31 (F := Ideal) D o (ix2 r l) = k0_pay30 (F := Ideal) D o (ix2 ⟨l.val % 64, by omega⟩ ⟨0 + l.val / 64 * 128 + r.val, by omega⟩) := by
  pointwise [k0_pay31]
  blk_point [] <;> omega

/-- Second query block, first key head: the second pair of heads, a row for each query. -/
theorem pair101 (D : FVec Ideal S1x512 .f32) (o : FVec Ideal S64x512 .f32) (r l : Fin 128) :
    k0_pay32 (F := Ideal) D o (ix2 r l) = k0_pay30 (F := Ideal) D o (ix2 ⟨l.val % 64, by omega⟩ ⟨256 + l.val / 64 * 128 + r.val, by omega⟩) := by
  pointwise [k0_pay32]
  blk_point [] <;> omega

/-- Second query block, second key head: the first pair of heads, a row for each query. -/
theorem pair110 (v : FVec Ideal S128x384 .bf16) (p : FVec Ideal S384x512 .f32) (x y : FVec Ideal S1x512 .f32) (r l : Fin 128) :
    k0_pay2 (F := Ideal) v p x y (ix2 r l) = k0_pay1 (F := Ideal) v p x y (ix2 ⟨l.val % 64, by omega⟩ ⟨0 + l.val / 64 * 128 + r.val, by omega⟩) := by
  pointwise [k0_pay2]
  blk_point [] <;> omega

/-- Second query block, second key head: the second pair of heads, a row for each query. -/
theorem pair111 (v : FVec Ideal S128x384 .bf16) (p : FVec Ideal S384x512 .f32) (x y : FVec Ideal S1x512 .f32) (r l : Fin 128) :
    k0_pay3 (F := Ideal) v p x y (ix2 r l) = k0_pay1 (F := Ideal) v p x y (ix2 ⟨l.val % 64, by omega⟩ ⟨256 + l.val / 64 * 128 + r.val, by omega⟩) := by
  pointwise [k0_pay3]
  blk_point [] <;> omega

end Cert.KernelIdeal.Attn
-- ==== Proof.AttnRead.lean ====
module

public import proofs.«01_k».proof.Proof.AttnTile
public import Idealize.ShloMosaic.Lib.StableHlo.RunRead

/-!
The windowed attention's blocks: what a grid point reads of the joined projection, as entries of the queries, the keys,
the values and the sinks.
-/

@[expose] public section

set_option maxRecDepth 65536

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Softmax

variable (m : (ℓ : Loc nD τ sig) → Buf (Elt Ideal) ℓ)

/-- The joined projection: columns that aren't read, the queries, the keys, the values. -/
def ROWS (q : FVec Ideal S16x2048x8x64 .f32) (k v : FVec Ideal S16x2048x2x64 .f32) : FVec Ideal S32768x4352 .f32 :=
  concatenate S32768x4352 1 [⟨S32768x3584, (broadcastInDim S32768x3584 ![] bcast_S_S32768x3584 (constant S_ .f32 0x00000000#32) : FVec Ideal S32768x3584 .f32)⟩, ⟨S32768x512, (shapeCast _ q shapeCasts_S16x2048x8x64_S32768x512 : FVec Ideal S32768x512 .f32)⟩, ⟨S32768x128, (shapeCast _ k shapeCasts_S16x2048x2x64_S32768x128 : FVec Ideal S32768x128 .f32)⟩, ⟨S32768x128, (shapeCast _ v shapeCasts_S16x2048x2x64_S32768x128 : FVec Ideal S32768x128 .f32)⟩] concatenates_S32768x3584_S32768x512_S32768x128_S32768x128_S32768x4352_d1

/-- The joined projection of this program's arguments. -/
abbrev RK (c : Dev nD) : FVec Ideal S32768x4352 .f32 :=
  ROWS (m ((c : Thread nD τ).loc main_arg0)) (m ((c : Thread nD τ).loc main_arg1)) (m ((c : Thread nD τ).loc main_arg2))

/-- The array of the query window is the joined projection. -/
theorem entry1 (c : Dev nD) : V m c (Pipeline.arrRef spec0 1) = RK m c := by
  change StableHlo.after hostOps0 (fun b => m (c, b)) (Proc.devRef .tc main_v4) = _
  after_reads_simp
  rfl

/-- The array of the window of the keys before is the joined projection. -/
theorem entry2 (c : Dev nD) : V m c (Pipeline.arrRef spec0 2) = RK m c := entry1 m c

/-- The array of the window of the own keys is the joined projection. -/
theorem entry3 (c : Dev nD) : V m c (Pipeline.arrRef spec0 3) = RK m c := entry1 m c

/-- The array of the window of the keys after is the joined projection. -/
theorem entry4 (c : Dev nD) : V m c (Pipeline.arrRef spec0 4) = RK m c := entry1 m c

/-- A query column of the joined projection. -/
theorem rows_q (q : FVec Ideal S16x2048x8x64 .f32) (k v : FVec Ideal S16x2048x2x64 .f32) (R : Fin 32768) (C : Fin 512)
    (b : Fin 16) (p : Fin 2048) (h : Fin 8) (e : Fin 64) (hR : R.val = b.val * 2048 + p.val) (hC : C.val = h.val * 64 + e.val) :
    ROWS q k v (ix2 R ⟨3584 + C.val, by omega⟩) = q (ix4 b p h e) := by
  have e1 : R.val / 2048 = b.val := by omega
  have e2 : R.val % 2048 = p.val := by omega
  have e3 : C.val / 64 = h.val := by omega
  have e4 : C.val % 64 = e.val := by omega
  pointwise [ROWS]
  simp only [e1, e2, e3, e4, Fin.eta]

/-- A key column of the joined projection. -/
theorem rows_k (q : FVec Ideal S16x2048x8x64 .f32) (k v : FVec Ideal S16x2048x2x64 .f32) (R : Fin 32768) (C : Fin 128)
    (b : Fin 16) (p : Fin 2048) (h : Fin 2) (e : Fin 64) (hR : R.val = b.val * 2048 + p.val) (hC : C.val = h.val * 64 + e.val) :
    ROWS q k v (ix2 R ⟨4096 + C.val, by omega⟩) = k (ix4 b p h e) := by
  have e1 : R.val / 2048 = b.val := by omega
  have e2 : R.val % 2048 = p.val := by omega
  have e3 : (4096 + C.val - 3584 - 512) / 64 = h.val := by omega
  have e4 : (4096 + C.val - 3584 - 512) % 64 = e.val := by omega
  pointwise [ROWS]
  split_ifs <;> first | (exfalso; omega) | simp only [e1, e2, e3, e4, Fin.eta]

/-- A value column of the joined projection. -/
theorem rows_v (q : FVec Ideal S16x2048x8x64 .f32) (k v : FVec Ideal S16x2048x2x64 .f32) (R : Fin 32768) (C : Fin 128)
    (b : Fin 16) (p : Fin 2048) (h : Fin 2) (e : Fin 64) (hR : R.val = b.val * 2048 + p.val) (hC : C.val = h.val * 64 + e.val) :
    ROWS q k v (ix2 R ⟨4224 + C.val, by omega⟩) = v (ix4 b p h e) := by
  have e1 : R.val / 2048 = b.val := by omega
  have e2 : R.val % 2048 = p.val := by omega
  have e3 : (4224 + C.val - 3584 - 512 - 128) / 64 = h.val := by omega
  have e4 : (4224 + C.val - 3584 - 512 - 128) % 64 = e.val := by omega
  pointwise [ROWS]
  split_ifs <;> first | (exfalso; omega) | simp only [e1, e2, e3, e4, Fin.eta]

/-- The block that every window takes at a grid point. -/
theorem idx : ∀ t : Fin cfg0.N, win0_0.index t = ![0] ∧ win0_1.index t = ![t.val, 7]
    ∧ win0_2.index t = ![t.val / 8 * 16 + (2 * (t.val % 8) - 1), 16] ∧ win0_3.index t = ![t.val, 16]
    ∧ win0_4.index t = ![t.val / 8 * 16 + min (2 * (t.val % 8) + 2) 15, 16] ∧ win0_5.index t = ![t.val, 0] :=
  (by decide +kernel : ∀ t : Fin grid0.N, _)

/-- The second coordinate of a grid point. -/
theorem coord (t : Fin cfg0.N) : (grid0.coords t 1).val = t.val % 8 :=
  (by decide +kernel : ∀ t : Fin grid0.N, (grid0.coords t 1).val = t.val % 8) t

/-- A grid point is one of 128. -/
theorem t_lt (t : Fin cfg0.N) : t.val < 128 := t.isLt

/-- Row `r` of block `t` is a row of the array. -/
theorem row_lt (t : Fin cfg0.N) (r : Fin 256) : t.val * 256 + r.val < 32768 := by
  have h := t_lt t
  omega

/-- The sinks. -/
theorem sink_at (c : Dev nD) (t : Fin cfg0.N) (h : Fin 8) :
    iblk m c 0 t (ix1 h) = (m ((c : Thread nD τ).loc main_arg3) : FVec Ideal S8 .f32) (ix1 h) := by
  blk_simp [iblk, idx t]
  entry_read
  blk_ext [idx t]

/-- The block of queries at an index. -/
theorem q_at (c : Dev nD) (t : Fin cfg0.N) (R : Fin 256) (C : Fin 512) :
    X0_1 m c t (ix2 R C) = RK m c (ix2 ⟨t.val * 256 + R.val, row_lt t R⟩ ⟨3584 + C.val, by omega⟩) := by
  unfold X0_1 Pipeline.Window.fill
  rw [dif_pos (moved0_1 t _)]
  unfold iblk
  rw [entry1]
  generalize RK m c = w
  blk_simp [idx t]
  blk_ext [idx t]

/-- The block of keys and values before, at an index. -/
theorem kp_at (c : Dev nD) (t : Fin cfg0.N) (r : Fin 128) (l : Fin 256) :
    iblk m c 2 t (ix2 r l) = RK m c (ix2 ⟨(t.val / 8 * 16 + (2 * (t.val % 8) - 1)) * 128 + r.val, by have := t_lt t; omega⟩ ⟨4096 + l.val, by omega⟩) := by
  unfold iblk
  rw [entry2]
  generalize RK m c = w
  blk_simp [idx t]
  blk_ext [idx t]

/-- The own block of keys and values, at an index. -/
theorem ko_at (c : Dev nD) (t : Fin cfg0.N) (r : Fin 256) (l : Fin 256) :
    iblk m c 3 t (ix2 r l) = RK m c (ix2 ⟨t.val * 256 + r.val, row_lt t r⟩ ⟨4096 + l.val, by omega⟩) := by
  unfold iblk
  rw [entry3]
  generalize RK m c = w
  blk_simp [idx t]
  blk_ext [idx t]

/-- The block of keys and values after, at an index. -/
theorem kn_at (c : Dev nD) (t : Fin cfg0.N) (r : Fin 128) (l : Fin 256) :
    iblk m c 4 t (ix2 r l) = RK m c (ix2 ⟨(t.val / 8 * 16 + min (2 * (t.val % 8) + 2) 15) * 128 + r.val, by have := t_lt t; omega⟩ ⟨4096 + l.val, by omega⟩) := by
  unfold iblk
  rw [entry4]
  generalize RK m c = w
  blk_simp [idx t]
  blk_ext [idx t]

/-- The keys and values of a point inside of the sequence: four blocks in a row. -/
theorem kv_at (c : Dev nD) (t : Fin cfg0.N) (R : Fin 512) (l : Fin 256) (h0 : 128 ≤ R.val ∨ 0 < t.val % 8)
    (h1 : R.val < 384 ∨ t.val % 8 < 7) :
    k0_pay4 (F := Ideal) (iblk m c 2 t) (iblk m c 3 t) (iblk m c 4 t) (ix2 R l)
      = RK m c (ix2 ⟨t.val * 256 + R.val - 128, by have := t_lt t; omega⟩ ⟨4096 + l.val, by omega⟩) := by
  have ht := t_lt t
  pointwise [k0_pay4]
  simp only [kp_at, ko_at, kn_at]
  split_ifs <;> (refine congrArg (RK m c) (congrArg (fun a : Fin 32768 => ix2 a _) (Fin.ext ?_)); dsimp only; omega)

/-- A key of a point, as an entry of the keys. -/
theorem key_at (c : Dev nD) (t : Fin cfg0.N) (R : Fin 512) (l : Fin 256) (b : Fin 16) (p : Fin 2048) (h : Fin 2) (e : Fin 64)
    (hb : b.val = t.val / 8) (hp : p.val + 128 = t.val % 8 * 256 + R.val) (hl : l.val = h.val * 64 + e.val) :
    k0_pay4 (F := Ideal) (iblk m c 2 t) (iblk m c 3 t) (iblk m c 4 t) (ix2 R l)
      = (m ((c : Thread nD τ).loc main_arg1) : FVec Ideal S16x2048x2x64 .f32) (ix4 b p h e) := by
  have ht := t_lt t
  rw [kv_at m c t R l (by omega) (by omega)]
  refine Eq.trans (congrArg (RK m c) (congrArg (ix2 _) (Fin.ext ?_)))
    (rows_k _ _ _ ⟨t.val * 256 + R.val - 128, by omega⟩ ⟨h.val * 64 + e.val, by omega⟩ b p h e (by dsimp only; omega) rfl)
  dsimp only; omega

/-- A value of a point, as an entry of the values. -/
theorem val_at (c : Dev nD) (t : Fin cfg0.N) (R : Fin 512) (l : Fin 256) (b : Fin 16) (p : Fin 2048) (h : Fin 2) (e : Fin 64)
    (hb : b.val = t.val / 8) (hp : p.val + 128 = t.val % 8 * 256 + R.val) (hl : l.val = 128 + h.val * 64 + e.val) :
    k0_pay4 (F := Ideal) (iblk m c 2 t) (iblk m c 3 t) (iblk m c 4 t) (ix2 R l)
      = (m ((c : Thread nD τ).loc main_arg2) : FVec Ideal S16x2048x2x64 .f32) (ix4 b p h e) := by
  have ht := t_lt t
  rw [kv_at m c t R l (by omega) (by omega)]
  refine Eq.trans (congrArg (RK m c) (congrArg (ix2 _) (Fin.ext ?_)))
    (rows_v _ _ _ ⟨t.val * 256 + R.val - 128, by omega⟩ ⟨h.val * 64 + e.val, by omega⟩ b p h e (by dsimp only; omega) rfl)
  dsimp only; omega

/-- A query of a point, as an entry of the queries. -/
theorem query_at (c : Dev nD) (t : Fin cfg0.N) (R : Fin 256) (C : Fin 512) (b : Fin 16) (p : Fin 2048) (x : Fin 8) (e : Fin 64)
    (hb : b.val = t.val / 8) (hp : p.val = t.val % 8 * 256 + R.val) (hC : C.val = x.val * 64 + e.val) :
    X0_1 m c t (ix2 R C) = (m ((c : Thread nD τ).loc main_arg0) : FVec Ideal S16x2048x8x64 .f32) (ix4 b p x e) := by
  have ht := t_lt t
  rw [q_at]
  exact rows_q _ _ _ ⟨t.val * 256 + R.val, row_lt t R⟩ C b p x e (by dsimp only; omega) hC

/-- A sink that a point reads. -/
theorem sink_ld (c : Dev nD) (t : Fin cfg0.N) (k : Fin 8) (inb) (h1 : 0 < S1.numel) :
    View.ld (iblk m c 0 t) (Rect.unit (s := S8) ![k.val] S1.size inb) (Shape.Idx.first h1)
      = (m ((c : Thread nD τ).loc main_arg3) : FVec Ideal S8 .f32) (ix1 k) := by
  refine Eq.trans (congrArg (iblk m c 0 t) (funext fun a => ?_)) (sink_at m c t k)
  match a with
  | ⟨0, _⟩ => exact Fin.ext (by simp)

/-- The queries of the first query block. -/
theorem ld_q0 (c : Dev nD) (t : Fin cfg0.N) (r : Fin 128) (C : Fin 512) (inb) :
    View.ld (X0_1 m c t) (Rect.unit (s := S256x512) ![0, 0] S128x512.size inb) (ix2 r C) = X0_1 m c t (ix2 ⟨r.val, by omega⟩ C) := by
  pointwise

/-- The queries of the second query block. -/
theorem ld_q1 (c : Dev nD) (t : Fin cfg0.N) (r : Fin 128) (C : Fin 512) (inb) :
    View.ld (X0_1 m c t) (Rect.unit (s := S256x512) ![128, 0] S128x512.size inb) (ix2 r C) = X0_1 m c t (ix2 ⟨128 + r.val, by omega⟩ C) := by
  pointwise

end Cert.KernelIdeal.Attn
-- ==== Proof.AttnDef.lean ====
module

public import proofs.«01_k».proof.Proof.Gen.ReferenceIdeal.Run
public import proofs.«01_k».proof.Proof.Softmax
public import Idealize.ShloMosaic.Lib.Claim
public import Idealize.ShloMosaic.Lib.Affine
public import Idealize.ShloMosaic.Lib.Pointwise
public import Idealize.ShloMosaic.Lib.Pipeline.ValueKit

/-!
The windowed attention's reference: every block of 128 queries sees the 384 keys of its own block and of the two beside
it, of which the ones outside of the window or of the sequence have a score of minus infinity.
-/

@[expose] public section

set_option maxRecDepth 65536

noncomputable section

open Idealize.ShloMosaic Idealize.ShloMosaic.TcCoe Idealize.SL.Sem

namespace Cert.ReferenceIdeal.Attn

open Cert.ReferenceIdeal Cert.ReferenceIdeal.Gen Cert.Softmax

/-- The keys or the values that each block of queries sees. -/
def BAND (x : FVec Ideal S16x2048x2x64 .f32) : FVec Ideal S16x16x384x2x64 .f32 :=
  concatenate S16x16x384x2x64 2 [⟨S16x16x128x2x64, ((extractStridedSlice S16x16x128x2x64 ![0, 0, 0, 0, 0] (shapeCast _ (pad S16x2304x2x64 ![0, 128, 0, 0] ![0, 128, 0, 0] ![0, 0, 0, 0] x (sitofp .f32 (constantI S_ 32 0#32)) pads_S16x2048x2x64_S16x2304x2x64_000_1281280_000_000 h_S_) shapeCasts_S16x2304x2x64_S16x18x128x2x64) slices_S16x18x128x2x64_S16x16x128x2x64_0_0_0_0_0) : FVec Ideal S16x16x128x2x64 .f32)⟩, ⟨S16x16x128x2x64, ((extractStridedSlice S16x16x128x2x64 ![0, 1, 0, 0, 0] (shapeCast _ (pad S16x2304x2x64 ![0, 128, 0, 0] ![0, 128, 0, 0] ![0, 0, 0, 0] x (sitofp .f32 (constantI S_ 32 0#32)) pads_S16x2048x2x64_S16x2304x2x64_000_1281280_000_000 h_S_) shapeCasts_S16x2304x2x64_S16x18x128x2x64) slices_S16x18x128x2x64_S16x16x128x2x64_0_1_0_0_0) : FVec Ideal S16x16x128x2x64 .f32)⟩, ⟨S16x16x128x2x64, ((extractStridedSlice S16x16x128x2x64 ![0, 2, 0, 0, 0] (shapeCast _ (pad S16x2304x2x64 ![0, 128, 0, 0] ![0, 128, 0, 0] ![0, 0, 0, 0] x (sitofp .f32 (constantI S_ 32 0#32)) pads_S16x2048x2x64_S16x2304x2x64_000_1281280_000_000 h_S_) shapeCasts_S16x2304x2x64_S16x18x128x2x64) slices_S16x18x128x2x64_S16x16x128x2x64_0_2_0_0_0) : FVec Ideal S16x16x128x2x64 .f32)⟩] concatenates_S16x16x128x2x64_S16x16x128x2x64_S16x16x128x2x64_S16x16x384x2x64_d2

/-- Which keys a query sees. -/
def VALID : IVec S16x128x384 1 :=
  andi (andi (cmpi .sle (absi (subi (broadcastInDim S16x128x384 ![0, 1, 2] bcast_S16x128x1_S16x128x384_0_1_2 (broadcastInDim S16x128x1 ![0, 1] bcast_S16x128_S16x128x1_0_1 (addi (broadcastInDim S16x128 ![0, 1] bcast_S16x1_S16x128_0_1 (muli (broadcastInDim S16x1 ![0] bcast_S16_S16x1_0 (iotaInDim S16 32 0)) (broadcastInDim S16x1 ![] bcast_S_S16x1 (constantI S_ 32 128#32)))) (broadcastInDim S16x128 ![0, 1] bcast_S1x128_S16x128_0_1 (broadcastInDim S1x128 ![1] bcast_S128_S1x128_1 (iotaInDim S128 32 0)))))) (broadcastInDim S16x128x384 ![0, 1, 2] bcast_S16x1x384_S16x128x384_0_1_2 (broadcastInDim S16x1x384 ![0, 2] bcast_S16x384_S16x1x384_0_2 (addi (broadcastInDim S16x384 ![0, 1] bcast_S16x1_S16x384_0_1 (muli (subi (broadcastInDim S16x1 ![0] bcast_S16_S16x1_0 (iotaInDim S16 32 0)) (broadcastInDim S16x1 ![] bcast_S_S16x1 (constantI S_ 32 1#32))) (broadcastInDim S16x1 ![] bcast_S_S16x1 (constantI S_ 32 128#32)))) (broadcastInDim S16x384 ![0, 1] bcast_S1x384_S16x384_0_1 (broadcastInDim S1x384 ![1] bcast_S384_S1x384_1 (iotaInDim S384 32 0)))))))) (broadcastInDim S16x128x384 ![] bcast_S_S16x128x384 (constantI S_ 32 128#32))) (broadcastInDim S16x128x384 ![0, 1, 2] bcast_S16x1x384_S16x128x384_0_1_2 (cmpi .sge (broadcastInDim S16x1x384 ![0, 2] bcast_S16x384_S16x1x384_0_2 (addi (broadcastInDim S16x384 ![0, 1] bcast_S16x1_S16x384_0_1 (muli (subi (broadcastInDim S16x1 ![0] bcast_S16_S16x1_0 (iotaInDim S16 32 0)) (broadcastInDim S16x1 ![] bcast_S_S16x1 (constantI S_ 32 1#32))) (broadcastInDim S16x1 ![] bcast_S_S16x1 (constantI S_ 32 128#32)))) (broadcastInDim S16x384 ![0, 1] bcast_S1x384_S16x384_0_1 (broadcastInDim S1x384 ![1] bcast_S384_S1x384_1 (iotaInDim S384 32 0))))) (broadcastInDim S16x1x384 ![] bcast_S_S16x1x384 (constantI S_ 32 0#32))))) (broadcastInDim S16x128x384 ![0, 1, 2] bcast_S16x1x384_S16x128x384_0_1_2 (cmpi .slt (broadcastInDim S16x1x384 ![0, 2] bcast_S16x384_S16x1x384_0_2 (addi (broadcastInDim S16x384 ![0, 1] bcast_S16x1_S16x384_0_1 (muli (subi (broadcastInDim S16x1 ![0] bcast_S16_S16x1_0 (iotaInDim S16 32 0)) (broadcastInDim S16x1 ![] bcast_S_S16x1 (constantI S_ 32 1#32))) (broadcastInDim S16x1 ![] bcast_S_S16x1 (constantI S_ 32 128#32)))) (broadcastInDim S16x384 ![0, 1] bcast_S1x384_S16x384_0_1 (broadcastInDim S1x384 ![1] bcast_S384_S1x384_1 (iotaInDim S384 32 0))))) (broadcastInDim S16x1x384 ![] bcast_S_S16x1x384 (constantI S_ 32 2048#32))))

/-- The scaled scores. -/
def SCORE (q : FVec Ideal S16x2048x8x64 .f32) (k : FVec Ideal S16x2048x2x64 .f32) : FVec Ideal S16x16x2x4x128x384 .f32 :=
  select (broadcastInDim S16x16x2x4x128x384 ![0, 1, 2, 3, 4, 5] bcast_S1x16x1x1x128x384_S16x16x2x4x128x384_0_1_2_3_4_5 (broadcastInDim S1x16x1x1x128x384 ![1, 4, 5] bcast_S16x128x384_S1x16x1x1x128x384_1_4_5 VALID)) (mulf (transpose S16x16x2x4x128x384 [0, 1, 2, 5, 4, 3] (Host.dotGeneral dot_S16x16x384x2x64_S16x16x128x2x4x64_S16x16x2x384x128x4_4_5_2_24_013_013 none (BAND k) (shapeCast _ q shapeCasts_S16x2048x8x64_S16x16x128x2x4x64)) transposes_S16x16x2x384x128x4_S16x16x2x4x128x384_0_1_2_5_4_3) (broadcastInDim S16x16x2x4x128x384 ![] bcast_S_S16x16x2x4x128x384 (constant S_ .f32 0x3E000000#32))) (broadcastInDim S16x16x2x4x128x384 ![] bcast_S_S16x16x2x4x128x384 (id (constant S_ .f32 0xFF800000#32)))

/-- The greatest score of every query and its sink. -/
def PEAK (s : FVec Ideal S16x16x2x4x128x384 .f32) (sink : FVec Ideal S8 .f32) : FVec Ideal S16x16x2x4x128x1 .f32 :=
  maximumf (broadcastInDim S16x16x2x4x128x1 ![0, 1, 2, 3, 4] bcast_S16x16x2x4x128_S16x16x2x4x128x1_0_1_2_3_4 (Host.reduce FloatOps.maximumf s (constant S_ .f32 0xFF800000#32) reducesTo_S16x16x2x4x128x384_S16x16x2x4x128_d5 h_S_)) (broadcastInDim S16x16x2x4x128x1 ![0, 1, 2, 3, 4, 5] bcast_S1x1x2x4x1x1_S16x16x2x4x128x1_0_1_2_3_4_5 (broadcastInDim S1x1x2x4x1x1 ![2, 3] bcast_S2x4_S1x1x2x4x1x1_2_3 (shapeCast _ sink shapeCasts_S8_S2x4)))

/-- The weights. -/
def WEIGHT (s : FVec Ideal S16x16x2x4x128x384 .f32) (sink : FVec Ideal S8 .f32) : FVec Ideal S16x16x2x4x128x384 .f32 :=
  Host.divf (Host.exp (subf s (broadcastInDim S16x16x2x4x128x384 ![0, 1, 2, 3, 4, 5] bcast_S16x16x2x4x128x1_S16x16x2x4x128x384_0_1_2_3_4_5 (PEAK s sink)))) (broadcastInDim S16x16x2x4x128x384 ![0, 1, 2, 3, 4, 5] bcast_S16x16x2x4x128x1_S16x16x2x4x128x384_0_1_2_3_4_5 (addf (broadcastInDim S16x16x2x4x128x1 ![0, 1, 2, 3, 4] bcast_S16x16x2x4x128_S16x16x2x4x128x1_0_1_2_3_4 (Host.reduceAdd (Host.exp (subf s (broadcastInDim S16x16x2x4x128x384 ![0, 1, 2, 3, 4, 5] bcast_S16x16x2x4x128x1_S16x16x2x4x128x384_0_1_2_3_4_5 (PEAK s sink)))) (constant S_ .f32 0x00000000#32) reducesTo_S16x16x2x4x128x384_S16x16x2x4x128_d5 h_S_)) (Host.exp (subf (broadcastInDim S16x16x2x4x128x1 ![0, 1, 2, 3, 4, 5] bcast_S1x1x2x4x1x1_S16x16x2x4x128x1_0_1_2_3_4_5 (broadcastInDim S1x1x2x4x1x1 ![2, 3] bcast_S2x4_S1x1x2x4x1x1_2_3 (shapeCast _ sink shapeCasts_S8_S2x4))) (PEAK s sink)))))

/-- The reference's result. -/
def ATTN (q : FVec Ideal S16x2048x8x64 .f32) (k v : FVec Ideal S16x2048x2x64 .f32) (sink : FVec Ideal S8 .f32) : FVec Ideal S32768x512 .bf16 :=
  truncf .bf16 (shapeCast _ (transpose S16x16x128x2x4x64 [0, 1, 5, 2, 4, 3] (Host.dotGeneral dot_S16x16x384x2x64_S16x16x2x4x128x384_S16x16x2x64x4x128_2_5_4_34_013_012 none (BAND v) (WEIGHT (SCORE q k) sink)) transposes_S16x16x2x64x4x128_S16x16x128x2x4x64_0_1_5_2_4_3) shapeCasts_S16x16x128x2x4x64_S32768x512) bitsLt_bf16_f32

/-- The reference's result of its arguments. -/
theorem res_attn (m : (ℓ : Loc nD τ sig) → Buf (Elt Ideal) ℓ) (c : Dev nD) : Cert.ReferenceIdeal.Value.res_main_v75 m c
    = ATTN (m ((c.tc : Thread nD τ).loc main_arg0)) (m ((c.tc : Thread nD τ).loc main_arg1)) (m ((c.tc : Thread nD τ).loc main_arg2))
      (m ((c.tc : Thread nD τ).loc main_arg3)) := rfl

/-- The score indices that drop to a query are its keys. -/
theorem drop_iff (H : S16x16x2x4x128x384.ReducesTo [5] S16x16x2x4x128) (b n : Fin 16) (h : Fin 2) (g : Fin 4) (r : Fin 128)
    (i : S16x16x2x4x128x384.Idx) : H.drop i = ix5 b n h g r ↔ ∃ c : Fin 384, ix6 b n h g r c = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a
    apply Fin.ext
    match a with
    | ⟨0, _⟩ => rfl
    | ⟨1, _⟩ => rfl
    | ⟨2, _⟩ => rfl
    | ⟨3, _⟩ => rfl
    | ⟨4, _⟩ => rfl

/-- A maximum over the keys. -/
theorem fold_keys (H : S16x16x2x4x128x384.ReducesTo [5] S16x16x2x4x128) (b n : Fin 16) (h : Fin 2) (g : Fin 4) (r : Fin 128)
    (z : EReal) (s : S16x16x2x4x128x384.Idx → EReal) :
    (Finset.univ.filter (fun i => H.drop i = ix5 b n h g r)).fold max z s
      = (Finset.univ : Finset (Fin 384)).fold max z (fun c => s (ix6 b n h g r c)) :=
  Finset.fold_filter_eq_fold_of_fiber max _ (fun c : Fin 384 => ix6 b n h g r c) (fun _ _ e => congrFun e 5) (drop_iff H b n h g r) z s

/-- A sum over the keys. -/
theorem sum_keys (H : S16x16x2x4x128x384.ReducesTo [5] S16x16x2x4x128) (b n : Fin 16) (h : Fin 2) (g : Fin 4) (r : Fin 128)
    (z : EReal) (s : S16x16x2x4x128x384.Idx → EReal) :
    Ideal.hostReduceAdd H s z (ix5 b n h g r) = z + ∑ c : Fin 384, s (ix6 b n h g r c) :=
  congrArg (z + ·) (Finset.sum_filter_eq_sum_of_fiber _ (fun c : Fin 384 => ix6 b n h g r c) (fun _ _ e => congrFun e 5)
    (drop_iff H b n h g r) s)

end Cert.ReferenceIdeal.Attn
-- ==== Proof.AttnRef.lean ====
module

public import proofs.«01_k».proof.Proof.AttnDef
public import proofs.«01_k».proof.Proof.Softmax
public import Idealize.ShloMosaic.Lib.Claim
public import Idealize.ShloMosaic.Lib.Affine
public import Idealize.ShloMosaic.Lib.WordArith
public import Idealize.ShloMosaic.Lib.Pointwise
public import Idealize.ShloMosaic.Lib.Pipeline.ValueKit

/-!
The windowed attention's reference at an index.
-/

@[expose] public section

set_option maxRecDepth 65536

noncomputable section

open Idealize.ShloMosaic Idealize.ShloMosaic.TcCoe Idealize.SL.Sem

namespace Cert.ReferenceIdeal.Attn

open Cert.ReferenceIdeal Cert.ReferenceIdeal.Gen Cert.Softmax

set_option maxHeartbeats 2000000 in
/-- A band at an index inside of the sequence. -/
theorem band_at (x : FVec Ideal S16x2048x2x64 .f32) (b n : Fin 16) (c : Fin 384) (h : Fin 2) (e : Fin 64)
    (hv : 128 ≤ n.val * 128 + c.val ∧ n.val * 128 + c.val < 2176) :
    BAND x (ix5 b n c h e) = x (ix4 b ⟨n.val * 128 + c.val - 128, by omega⟩ h e) := by
  pointwise [BAND]
  split_ifs <;> first
    | (exfalso; omega)
    | (refine congrArg x (congrArg (fun a : Fin 2048 => ix4 b a h e) (Fin.ext ?_)); dsimp only; try omega)

/-- A small natural number as a signed word. -/
theorem word (n : ℕ) (h : n < 4096) : (BitVec.ofNat 32 n).toInt = n := WordArith.toInt_ofNat_small n (by omega)

/-- The absolute value of a small signed word. -/
theorem abs_word (x : BitVec 32) (h : -4096 < x.toInt ∧ x.toInt < 4096) : (IntOp.absi x).toInt = |x.toInt| := by
  unfold IntOp.absi
  have := BitVec.msb_eq_toInt (x := x)
  by_cases hx : x.toInt < 0
  · have hm : x.msb = true := by rw [this]; exact decide_eq_true hx
    rw [if_pos hm, BitVec.toInt_neg, abs_of_neg hx]
    exact Int.bmod_eq_of_le (by omega) (by omega)
  · have hm : x.msb = false := by rw [this]; exact decide_eq_false hx
    rw [hm, abs_of_nonneg (by omega)]; rfl

/-- A query's position as a word. -/
theorem qpos (n r : ℕ) (hn : n < 16) (hr : r < 128) :
    (IntOp.addi (IntOp.muli (BitVec.ofNat 32 n) 128#32) (BitVec.ofNat 32 r)).toInt = (n : Int) * 128 + r := by
  have h1 : (IntOp.muli (BitVec.ofNat 32 n) 128#32).toInt = (n : Int) * 128 := by
    refine (WordArith.toInt_mul_of_bounds _ _ ?_ ?_).trans ?_ <;> rw [word n (by omega), show (128#32 : BitVec 32).toInt = 128 by decide] <;> omega
  refine (WordArith.toInt_add_of_bounds _ _ ?_ ?_).trans ?_ <;> rw [h1, word r (by omega)] <;> omega

/-- A key's position as a word. -/
theorem kpos (n c : ℕ) (hn : n < 16) (hc : c < 384) :
    (IntOp.addi (IntOp.muli (IntOp.subi (BitVec.ofNat 32 n) 1#32) 128#32) (BitVec.ofNat 32 c)).toInt = ((n : Int) - 1) * 128 + c := by
  have h0 : (IntOp.subi (BitVec.ofNat 32 n) 1#32).toInt = (n : Int) - 1 := by
    refine (WordArith.toInt_sub_of_bounds _ _ ?_ ?_).trans ?_ <;> rw [word n (by omega), show (1#32 : BitVec 32).toInt = 1 by decide] <;> omega
  have h1 : (IntOp.muli (IntOp.subi (BitVec.ofNat 32 n) 1#32) 128#32).toInt = ((n : Int) - 1) * 128 := by
    refine (WordArith.toInt_mul_of_bounds _ _ ?_ ?_).trans ?_ <;> rw [h0, show (128#32 : BitVec 32).toInt = 128 by decide] <;> omega
  refine (WordArith.toInt_add_of_bounds _ _ ?_ ?_).trans ?_ <;> rw [h1, word c (by omega)] <;> omega

/-- The distance of a query and a key as a word. -/
theorem dist (n r c : ℕ) (hn : n < 16) (hr : r < 128) (hc : c < 384) :
    (IntOp.absi (IntOp.subi (IntOp.addi (IntOp.muli (BitVec.ofNat 32 n) 128#32) (BitVec.ofNat 32 r))
      (IntOp.addi (IntOp.muli (IntOp.subi (BitVec.ofNat 32 n) 1#32) 128#32) (BitVec.ofNat 32 c)))).toInt = |(128 : Int) + r - c| := by
  have h : (IntOp.subi (IntOp.addi (IntOp.muli (BitVec.ofNat 32 n) 128#32) (BitVec.ofNat 32 r))
      (IntOp.addi (IntOp.muli (IntOp.subi (BitVec.ofNat 32 n) 1#32) 128#32) (BitVec.ofNat 32 c))).toInt = (128 : Int) + r - c := by
    refine (WordArith.toInt_sub_of_bounds _ _ ?_ ?_).trans ?_ <;> rw [qpos n r hn hr, kpos n c hn hc] <;> omega
  rw [abs_word _ (by rw [h]; omega), h]

/-- Which keys a query sees, at an index. -/
theorem valid_at (n : Fin 16) (r : Fin 128) (c : Fin 384) : VALID (ix3 n r c) = 1#1
    ↔ (r.val ≤ c.val ∧ c.val ≤ r.val + 256 ∧ (128 ≤ c.val ∨ 0 < n.val) ∧ (c.val < 256 ∨ n.val < 15)) := by
  have hn := n.isLt
  have hr := r.isLt
  have hc := c.isLt
  pointwise [VALID]
  rw [IntOp.andi_eq_one, IntOp.andi_eq_one, IntOp.cmpi_sle, IntOp.cmpi_sge, IntOp.cmpi_slt, dist _ _ _ hn hr hc, kpos _ _ hn hc,
    show (0#32 : BitVec 32).toInt = 0 by decide, show (128#32 : BitVec 32).toInt = 128 by decide,
    show (2048#32 : BitVec 32).toInt = 2048 by decide, abs_le]
  omega

/-- A score at an index. -/
theorem score_at (q : FVec Ideal S16x2048x8x64 .f32) (k : FVec Ideal S16x2048x2x64 .f32) (b n : Fin 16) (h : Fin 2) (g : Fin 4)
    (r : Fin 128) (c : Fin 384) :
    SCORE q k (ix6 b n h g r c) = if VALID (ix3 n r c) = 1#1 then
      (∑ e : Fin 64, BAND k (ix5 b n c h e) * (q (ix4 b ⟨n.val * 128 + r.val, by omega⟩ ⟨h.val * 4 + g.val, by omega⟩ e) : EReal))
        * Ideal.ofBits .f32 0x3E000000#32 else ⊥ := by
  pointwise [SCORE]
  have e : (id (constant (F := Ideal) S_ .f32 0xFF800000#32) ix0 : EReal) = ⊥ := neg_infinity
  rw [e]
  rfl

/-- The greatest score of a query. -/
theorem max_keys (s : FVec Ideal S16x16x2x4x128x384 .f32) (b n : Fin 16) (h : Fin 2) (g : Fin 4) (r : Fin 128) :
    Host.reduce FloatOps.maximumf s (constant S_ .f32 0xFF800000#32) reducesTo_S16x16x2x4x128x384_S16x16x2x4x128_d5 h_S_ (ix5 b n h g r)
      = (Finset.univ : Finset (Fin 384)).fold max (⊥ : EReal) (fun c => s (ix6 b n h g r c)) := by
  rw [Ideal.maximumf_eq_max, ← neg_infinity]
  exact (Host.reduce_eq_fold max s (constant (F := Ideal) S_ .f32 0xFF800000#32) reducesTo_S16x16x2x4x128x384_S16x16x2x4x128_d5 h_S_ (ix5 b n h g r)).trans
    (fold_keys _ b n h g r _ s)

/-- The greater of an array's entry and the sink. -/
theorem peak_of (x : FVec Ideal S16x16x2x4x128 .f32) (sink : FVec Ideal S8 .f32) (b n : Fin 16) (h : Fin 2) (g : Fin 4)
    (r : Fin 128) (z : Fin 1) :
    maximumf (F := Ideal) (broadcastInDim S16x16x2x4x128x1 ![0, 1, 2, 3, 4] bcast_S16x16x2x4x128_S16x16x2x4x128x1_0_1_2_3_4 x) (broadcastInDim S16x16x2x4x128x1 ![0, 1, 2, 3, 4, 5] bcast_S1x1x2x4x1x1_S16x16x2x4x128x1_0_1_2_3_4_5 (broadcastInDim S1x1x2x4x1x1 ![2, 3] bcast_S2x4_S1x1x2x4x1x1_2_3 (shapeCast _ sink shapeCasts_S8_S2x4))) (ix6 b n h g r z)
      = max (x (ix5 b n h g r)) (sink (ix1 ⟨h.val * 4 + g.val, by omega⟩)) := by
  pointwise

/-- The greatest score of a query and its sink. -/
theorem peak_at (s : FVec Ideal S16x16x2x4x128x384 .f32) (sink : FVec Ideal S8 .f32) (b n : Fin 16) (h : Fin 2) (g : Fin 4)
    (r : Fin 128) (z : Fin 1) :
    PEAK s sink (ix6 b n h g r z) = peak (fun c => s (ix6 b n h g r c)) (sink (ix1 ⟨h.val * 4 + g.val, by omega⟩)) := by
  unfold peak PEAK
  refine (peak_of _ sink b n h g r z).trans ?_
  rw [max_keys]

/-- The exponential of a score less the greatest one. -/
theorem exp_at (s : FVec Ideal S16x16x2x4x128x384 .f32) (p : FVec Ideal S16x16x2x4x128x1 .f32) (b n : Fin 16) (h : Fin 2) (g : Fin 4)
    (r : Fin 128) (c : Fin 384) :
    Host.exp (subf s (broadcastInDim S16x16x2x4x128x384 ![0, 1, 2, 3, 4, 5] bcast_S16x16x2x4x128x1_S16x16x2x4x128x384_0_1_2_3_4_5 p))
      (ix6 b n h g r c) = Ideal.exp (s (ix6 b n h g r c) - p (ix6 b n h g r 0)) := by
  pointwise

/-- The weights' sum of a query, with the sink's. -/
theorem total_at (x : FVec Ideal S16x16x2x4x128x384 .f32) (p : FVec Ideal S16x16x2x4x128x1 .f32) (sink : FVec Ideal S8 .f32)
    (b n : Fin 16) (h : Fin 2) (g : Fin 4) (r : Fin 128) (c : Fin 384) :
    broadcastInDim S16x16x2x4x128x384 ![0, 1, 2, 3, 4, 5] bcast_S16x16x2x4x128x1_S16x16x2x4x128x384_0_1_2_3_4_5 (addf (F := Ideal) (broadcastInDim S16x16x2x4x128x1 ![0, 1, 2, 3, 4] bcast_S16x16x2x4x128_S16x16x2x4x128x1_0_1_2_3_4 (Host.reduceAdd x (constant S_ .f32 0x00000000#32) reducesTo_S16x16x2x4x128x384_S16x16x2x4x128_d5 h_S_)) (Host.exp (subf (broadcastInDim S16x16x2x4x128x1 ![0, 1, 2, 3, 4, 5] bcast_S1x1x2x4x1x1_S16x16x2x4x128x1_0_1_2_3_4_5 (broadcastInDim S1x1x2x4x1x1 ![2, 3] bcast_S2x4_S1x1x2x4x1x1_2_3 (shapeCast _ sink shapeCasts_S8_S2x4))) p)))
      (ix6 b n h g r c) = (∑ c, x (ix6 b n h g r c)) + Ideal.exp (sink (ix1 ⟨h.val * 4 + g.val, by omega⟩) - p (ix6 b n h g r 0)) := by
  pointwise [sum_keys]

/-- A weight at an index. -/
theorem weight_at (s : FVec Ideal S16x16x2x4x128x384 .f32) (sink : FVec Ideal S8 .f32) (b n : Fin 16) (h : Fin 2) (g : Fin 4)
    (r : Fin 128) (c : Fin 384) :
    WEIGHT s sink (ix6 b n h g r c) = Ideal.div
      (Ideal.exp (s (ix6 b n h g r c) - peak (fun c => s (ix6 b n h g r c)) (sink (ix1 ⟨h.val * 4 + g.val, by omega⟩))))
      (total (fun c => s (ix6 b n h g r c)) (sink (ix1 ⟨h.val * 4 + g.val, by omega⟩))) := by
  unfold total WEIGHT
  refine congrArg₂ Ideal.div ((exp_at _ _ b n h g r c).trans ?_) ((total_at _ _ sink b n h g r c).trans ?_)
  · rw [peak_at]
  · rw [peak_at]
    refine congrArg (· + _) (Finset.sum_congr rfl fun c' _ => ?_)
    rw [exp_at, peak_at]

/-- The result of the bands and the weights at an index. -/
theorem mix_at (v : FVec Ideal S16x16x384x2x64 .f32) (w : FVec Ideal S16x16x2x4x128x384 .f32)
    (R : Fin 32768) (C : Fin 512) (b n : Fin 16) (h : Fin 2) (g : Fin 4) (r : Fin 128) (d : Fin 64)
    (hR : R.val = b.val * 2048 + n.val * 128 + r.val) (hC : C.val = h.val * 256 + g.val * 64 + d.val) :
    truncf .bf16 (shapeCast S32768x512 (transpose S16x16x128x2x4x64 [0, 1, 5, 2, 4, 3] (Host.dotGeneral (F := Ideal) dot_S16x16x384x2x64_S16x16x2x4x128x384_S16x16x2x64x4x128_2_5_4_34_013_012 none v w) transposes_S16x16x2x64x4x128_S16x16x128x2x4x64_0_1_5_2_4_3) shapeCasts_S16x16x128x2x4x64_S32768x512) bitsLt_bf16_f32 (ix2 R C)
      = ∑ c, v (ix5 b n c h d) * w (ix6 b n h g r c) := by
  have e1 : R.val / 2048 = b.val := by omega
  have e2 : R.val / 128 % 16 = n.val := by omega
  have e3 : R.val % 128 = r.val := by omega
  have e4 : C.val / 256 = h.val := by omega
  have e5 : C.val / 64 % 4 = g.val := by omega
  have e6 : C.val % 64 = d.val := by omega
  pointwise
  simp only [e1, e2, e3, e4, e5, e6, Fin.eta]

/-- The reference's result at an index. -/
theorem attn_at (q : FVec Ideal S16x2048x8x64 .f32) (k v : FVec Ideal S16x2048x2x64 .f32) (sink : FVec Ideal S8 .f32)
    (R : Fin 32768) (C : Fin 512) (b n : Fin 16) (h : Fin 2) (g : Fin 4) (r : Fin 128) (d : Fin 64)
    (hR : R.val = b.val * 2048 + n.val * 128 + r.val) (hC : C.val = h.val * 256 + g.val * 64 + d.val) :
    ATTN q k v sink (ix2 R C) = early (fun c => SCORE q k (ix6 b n h g r c)) (fun c => BAND v (ix5 b n c h d))
      (sink (ix1 ⟨h.val * 4 + g.val, by omega⟩)) := by
  unfold early ATTN
  refine (mix_at (BAND v) (WEIGHT (SCORE q k) sink) R C b n h g r d hR hC).trans (Finset.sum_congr rfl fun c _ => ?_)
  rw [weight_at]

/-- Dividing at the end gives the reference's result, for scores, values and a sink that agree with the reference's where
they count. -/
theorem core (q : FVec Ideal S16x2048x8x64 .f32) (k v : FVec Ideal S16x2048x2x64 .f32) (sink : FVec Ideal S8 .f32)
    (hq : ∀ i, ∃ x : ℝ, q i = (x : EReal)) (hk : ∀ i, ∃ x : ℝ, k i = (x : EReal)) (hs : ∀ i, ∃ x : ℝ, sink i = (x : EReal))
    (R : Fin 32768) (C : Fin 512) (b n : Fin 16) (h : Fin 2) (g : Fin 4) (r : Fin 128) (d : Fin 64)
    (hR : R.val = b.val * 2048 + n.val * 128 + r.val) (hC : C.val = h.val * 256 + g.val * 64 + d.val)
    (valid : Fin 384 → Prop) [DecidablePred valid] (K : Fin 384 → Fin 64 → EReal) (Q : Fin 64 → EReal) (W S : Fin 384 → EReal)
    (a : EReal)
    (hS : ∀ c, S c = if valid c then ∑ e, K c e * (Q e * Ideal.ofBits .f32 0x3E000000#32) else ⊥)
    (hvalid : ∀ c, valid c ↔ (r.val ≤ c.val ∧ c.val ≤ r.val + 256 ∧ (128 ≤ c.val ∨ 0 < n.val) ∧ (c.val < 256 ∨ n.val < 15)))
    (hK : ∀ (c : Fin 384) (p : Fin 2048), p.val + 128 = n.val * 128 + c.val → ∀ e, K c e = k (ix4 b p h e))
    (hQ : ∀ (p : Fin 2048) (x : Fin 8), p.val = n.val * 128 + r.val → x.val = h.val * 4 + g.val → ∀ e, Q e = q (ix4 b p x e))
    (hW : ∀ (c : Fin 384) (p : Fin 2048), p.val + 128 = n.val * 128 + c.val → W c = v (ix4 b p h d))
    (ha : ∀ x : Fin 8, x.val = h.val * 4 + g.val → a = sink (ix1 x)) :
    late S W a = ATTN q k v sink (ix2 R C) := by
  rw [attn_at q k v sink R C b n h g r d hR hC]
  obtain ⟨β, hβ⟩ := hs (ix1 ⟨h.val * 4 + g.val, by omega⟩)
  rw [ha ⟨h.val * 4 + g.val, by omega⟩ rfl, hβ]
  have inside : ∀ c : Fin 384, VALID (ix3 n r c) = 1#1 → 128 ≤ n.val * 128 + c.val ∧ n.val * 128 + c.val < 2176 := by
    intro c hV
    have := (valid_at n r c).1 hV
    omega
  have e : S = fun c => SCORE q k (ix6 b n h g r c) := by
    funext c
    rw [hS, score_at]
    by_cases hV : VALID (ix3 n r c) = 1#1
    · have hp := inside c hV
      rw [if_pos ((hvalid c).2 ((valid_at n r c).1 hV)), if_pos hV, ← scale]
      refine Finset.sum_congr rfl fun e _ => ?_
      rw [hK c ⟨n.val * 128 + c.val - 128, by omega⟩ (by dsimp only; omega) e,
        hQ ⟨n.val * 128 + r.val, by omega⟩ ⟨h.val * 4 + g.val, by omega⟩ rfl rfl e, band_at k b n c h e hp]
    · rw [if_neg hV, if_neg fun hv => hV ((valid_at n r c).2 ((hvalid c).1 hv))]
  rw [e]
  refine late_early _ _ _ β (fun c => ?_) (fun c => ?_)
  · rw [score_at]
    split_ifs with hV
    · refine score_ne_top _ _ (fun e => ?_) (fun e => hq _)
      rw [band_at k b n c h e (inside c hV)]
      exact hk _
    · exact bot_ne_top
  · by_cases hV : VALID (ix3 n r c) = 1#1
    · have hp := inside c hV
      right
      rw [hW c ⟨n.val * 128 + c.val - 128, by omega⟩ (by dsimp only; omega), band_at v b n c h d hp]
    · left
      rw [score_at, if_neg hV]

end Cert.ReferenceIdeal.Attn
-- ==== Proof.Attn.lean ====
module

public import proofs.«01_k».proof.Proof.AttnRead
public import proofs.«01_k».proof.Proof.AttnRef

/-!
The windowed attention: every grid point computes the reference's rows, and the run the reference's result.
-/

@[expose] public section

set_option maxRecDepth 65536

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Softmax Cert.ReferenceIdeal.Attn

variable (m : (ℓ : Loc nD τ sig) → Buf (Elt Ideal) ℓ)

/-- The reference's result over this program's arguments. -/
abbrev OK (c : Dev nD) : FVec Ideal S32768x512 .bf16 :=
  ATTN (m ((c : Thread nD τ).loc main_arg0)) (m ((c : Thread nD τ).loc main_arg1)) (m ((c : Thread nD τ).loc main_arg2))
    (m ((c : Thread nD τ).loc main_arg3))

/-- The arguments but the values are real numbers. -/
structure Real (c : Dev nD) : Prop where
  q : ∀ i, ∃ x : ℝ, (m ((c : Thread nD τ).loc main_arg0) : FVec Ideal S16x2048x8x64 .f32) i = (x : EReal)
  k : ∀ i, ∃ x : ℝ, (m ((c : Thread nD τ).loc main_arg1) : FVec Ideal S16x2048x2x64 .f32) i = (x : EReal)
  s : ∀ i, ∃ x : ℝ, (m ((c : Thread nD τ).loc main_arg3) : FVec Ideal S8 .f32) i = (x : EReal)

/-- The sink of a column's head, as an entry of the sinks. -/
theorem sinkAt_eq (f : Fin 8 → EReal) (h : ℕ) (j : Fin 512) (x x0 x1 x2 x3 : Fin 8) (hx : x.val = h * 4 + j.val / 128)
    (h0 : x0.val = h * 4) (h1 : x1.val = h * 4 + 1) (h2 : x2.val = h * 4 + 2) (h3 : x3.val = h * 4 + 3) :
    sinkAt (f x0) (f x1) (f x2) (f x3) j = f x := by
  unfold sinkAt
  split_ifs <;> exact congrArg f (Fin.ext (by omega))

variable (c : Dev nD) (t : Fin cfg0.N) (hm : Real m c)

include hm in
/-- First query block, first key head: the reference's values. -/
theorem base00 (qv : Vec Ideal S128x512 .f32) (d : Fin 64) (j : Fin 512) (R : Fin 32768) (C : Fin 512)
    (hqv : ∀ r C, qv (ix2 r C) = X0_1 m c t (ix2 ⟨r.val, by omega⟩ C))
    (hR : R.val = t.val * 256 + j.val % 128) (hC : C.val = j.val / 128 * 64 + d.val) :
    k0_pay11 (F := Ideal) (k0_pay9 (iblk m c 2 t) (iblk m c 3 t) (iblk m c 4 t)) (k0_pay10 (grid0.coords t) (iblk m c 2 t) (iblk m c 3 t) (iblk m c 4 t) qv) ((m ((c : Thread nD τ).loc main_arg3) : FVec Ideal S8 .f32) (ix1 0)) ((m ((c : Thread nD τ).loc main_arg3) : FVec Ideal S8 .f32) (ix1 1)) ((m ((c : Thread nD τ).loc main_arg3) : FVec Ideal S8 .f32) (ix1 2)) ((m ((c : Thread nD τ).loc main_arg3) : FVec Ideal S8 .f32) (ix1 3)) (ix2 d j) = OK m c (ix2 R C) := by
  have ht := t_lt t
  have hj := j.isLt
  have hi : (grid0.coords t 1).val = t.val % 8 := coord t
  refine (out00 _ _ _ _ _ _ d j).trans ?_
  refine core _ _ _ _ hm.q hm.k hm.s R C ⟨t.val / 8, by omega⟩ ⟨2 * (t.val % 8), by omega⟩ 0 ⟨j.val / 128, by omega⟩
    ⟨j.val % 128, by omega⟩ d (by dsimp only; omega) (by simp only [Fin.val_zero, Fin.val_one] <;> omega)
    (fun y => k0_pay6 (grid0.coords t) (ix2 y j) = 1#1) (fun y e => k0_pay4 (F := Ideal) (iblk m c 2 t) (iblk m c 3 t) (iblk m c 4 t) (ix2 ⟨y.val, by omega⟩ ⟨e.val, by omega⟩)) (fun e => (qv (ix2 ⟨j.val % 128, by omega⟩ ⟨j.val / 128 * 64 + e.val, by omega⟩) : EReal)) _ _ _
    ?_ ?_ ?_ ?_ ?_ ?_
  · intro y
    exact score00 (grid0.coords t) _ _ _ qv y j
  · intro y
    refine (mask0 (grid0.coords t) y j).trans ?_
    dsimp only
    omega
  · intro y p hp e
    refine key_at m c t _ _ _ p 0 e rfl ?_ ?_ <;> (simp only [Fin.val_zero, Fin.val_one] at hp ⊢ <;> omega)
  · intro p x hp hx e
    rw [hqv]
    refine query_at m c t _ _ _ p x e rfl ?_ ?_ <;> (simp only [Fin.val_zero, Fin.val_one] at hp hx ⊢ <;> omega)
  · intro y p hp
    refine (value0 (iblk m c 2 t) (iblk m c 3 t) (iblk m c 4 t) _ y).trans ?_
    refine val_at m c t _ _ _ p 0 d rfl ?_ ?_ <;> (simp only [Fin.val_zero, Fin.val_one] at hp ⊢ <;> omega)
  · intro x hx
    exact sinkAt_eq (fun x => (m ((c : Thread nD τ).loc main_arg3) : FVec Ideal S8 .f32) (ix1 x)) 0 j x 0 1 2 3 (by simp only [Fin.val_zero, Fin.val_one] at hx <;> omega) (by decide) (by decide) (by decide) (by decide)

include hm in
/-- First query block, second key head: the reference's values. -/
theorem base01 (qv : Vec Ideal S128x512 .f32) (d : Fin 64) (j : Fin 512) (R : Fin 32768) (C : Fin 512)
    (hqv : ∀ r C, qv (ix2 r C) = X0_1 m c t (ix2 ⟨r.val, by omega⟩ C))
    (hR : R.val = t.val * 256 + j.val % 128) (hC : C.val = 256 + j.val / 128 * 64 + d.val) :
    k0_pay16 (F := Ideal) (k0_pay6 (grid0.coords t)) (k0_pay9 (iblk m c 2 t) (iblk m c 3 t) (iblk m c 4 t)) (k0_pay14 (k0_pay8 (iblk m c 2 t) (iblk m c 3 t) (iblk m c 4 t))) (k0_pay15 (k0_pay7 qv)) (constant S384x512 .f32 0x00000000#32) ((m ((c : Thread nD τ).loc main_arg3) : FVec Ideal S8 .f32) (ix1 4)) ((m ((c : Thread nD τ).loc main_arg3) : FVec Ideal S8 .f32) (ix1 5)) ((m ((c : Thread nD τ).loc main_arg3) : FVec Ideal S8 .f32) (ix1 6)) ((m ((c : Thread nD τ).loc main_arg3) : FVec Ideal S8 .f32) (ix1 7)) (ix2 d j) = OK m c (ix2 R C) := by
  have ht := t_lt t
  have hj := j.isLt
  have hi : (grid0.coords t 1).val = t.val % 8 := coord t
  refine (out01 _ _ _ _ _ _ _ _ d j).trans ?_
  refine core _ _ _ _ hm.q hm.k hm.s R C ⟨t.val / 8, by omega⟩ ⟨2 * (t.val % 8), by omega⟩ 1 ⟨j.val / 128, by omega⟩
    ⟨j.val % 128, by omega⟩ d (by dsimp only; omega) (by simp only [Fin.val_zero, Fin.val_one] <;> omega)
    (fun y => k0_pay6 (grid0.coords t) (ix2 y j) = 1#1) (fun y e => k0_pay4 (F := Ideal) (iblk m c 2 t) (iblk m c 3 t) (iblk m c 4 t) (ix2 ⟨y.val, by omega⟩ ⟨64 + e.val, by omega⟩)) (fun e => (qv (ix2 ⟨j.val % 128, by omega⟩ ⟨256 + j.val / 128 * 64 + e.val, by omega⟩) : EReal)) _ _ _
    ?_ ?_ ?_ ?_ ?_ ?_
  · intro y
    exact if_congr Iff.rfl (Finset.sum_congr rfl fun e _ => congrArg₂ (fun a b : EReal => a * b) (key01 (iblk m c 2 t) (iblk m c 3 t) (iblk m c 4 t) y e) (stack01 qv j e)) rfl
  · intro y
    refine (mask0 (grid0.coords t) y j).trans ?_
    dsimp only
    omega
  · intro y p hp e
    refine key_at m c t _ _ _ p 1 e rfl ?_ ?_ <;> (simp only [Fin.val_zero, Fin.val_one] at hp ⊢ <;> omega)
  · intro p x hp hx e
    rw [hqv]
    refine query_at m c t _ _ _ p x e rfl ?_ ?_ <;> (simp only [Fin.val_zero, Fin.val_one] at hp hx ⊢ <;> omega)
  · intro y p hp
    refine (value0 (iblk m c 2 t) (iblk m c 3 t) (iblk m c 4 t) _ y).trans ?_
    refine val_at m c t _ _ _ p 1 d rfl ?_ ?_ <;> (simp only [Fin.val_zero, Fin.val_one] at hp ⊢ <;> omega)
  · intro x hx
    exact sinkAt_eq (fun x => (m ((c : Thread nD τ).loc main_arg3) : FVec Ideal S8 .f32) (ix1 x)) 1 j x 4 5 6 7 (by simp only [Fin.val_zero, Fin.val_one] at hx <;> omega) (by decide) (by decide) (by decide) (by decide)

include hm in
/-- Second query block, first key head: the reference's values. -/
theorem base10 (qv : Vec Ideal S128x512 .f32) (d : Fin 64) (j : Fin 512) (R : Fin 32768) (C : Fin 512)
    (hqv : ∀ r C, qv (ix2 r C) = X0_1 m c t (ix2 ⟨128 + r.val, by omega⟩ C))
    (hR : R.val = t.val * 256 + 128 + j.val % 128) (hC : C.val = j.val / 128 * 64 + d.val) :
    k0_pay30 (F := Ideal) (k0_pay28 (BitVec.ofNat 32 (grid0.coords t 1).val) (k0_pay4 (F := Ideal) (iblk m c 2 t) (iblk m c 3 t) (iblk m c 4 t)) k0_pay5 (k0_pay19 (iota .tc S384x128 32 [0] iota_S384x128_d0_w32)) qv ((m ((c : Thread nD τ).loc main_arg3) : FVec Ideal S8 .f32) (ix1 0)) ((m ((c : Thread nD τ).loc main_arg3) : FVec Ideal S8 .f32) (ix1 1)) ((m ((c : Thread nD τ).loc main_arg3) : FVec Ideal S8 .f32) (ix1 2)) ((m ((c : Thread nD τ).loc main_arg3) : FVec Ideal S8 .f32) (ix1 3))) (k0_pay29 (BitVec.ofNat 32 (grid0.coords t 1).val) (k0_pay4 (F := Ideal) (iblk m c 2 t) (iblk m c 3 t) (iblk m c 4 t)) k0_pay5 (k0_pay19 (iota .tc S384x128 32 [0] iota_S384x128_d0_w32)) qv ((m ((c : Thread nD τ).loc main_arg3) : FVec Ideal S8 .f32) (ix1 0)) ((m ((c : Thread nD τ).loc main_arg3) : FVec Ideal S8 .f32) (ix1 1)) ((m ((c : Thread nD τ).loc main_arg3) : FVec Ideal S8 .f32) (ix1 2)) ((m ((c : Thread nD τ).loc main_arg3) : FVec Ideal S8 .f32) (ix1 3))) (ix2 d j) = OK m c (ix2 R C) := by
  have ht := t_lt t
  have hj := j.isLt
  have hi : (grid0.coords t 1).val = t.val % 8 := coord t
  refine (out10 _ _ _ _ _ _ _ _ _ d j).trans ?_
  refine core _ _ _ _ hm.q hm.k hm.s R C ⟨t.val / 8, by omega⟩ ⟨2 * (t.val % 8) + 1, by omega⟩ 0 ⟨j.val / 128, by omega⟩
    ⟨j.val % 128, by omega⟩ d (by dsimp only; omega) (by simp only [Fin.val_zero, Fin.val_one] <;> omega)
    (fun y => k0_pay20 (BitVec.ofNat 32 (grid0.coords t 1).val) k0_pay5 (k0_pay19 (iota .tc S384x128 32 [0] iota_S384x128_d0_w32)) (ix2 y j) = 1#1) (fun y e => k0_pay4 (F := Ideal) (iblk m c 2 t) (iblk m c 3 t) (iblk m c 4 t) (ix2 ⟨128 + y.val, by omega⟩ ⟨e.val, by omega⟩)) (fun e => (qv (ix2 ⟨j.val % 128, by omega⟩ ⟨j.val / 128 * 64 + e.val, by omega⟩) : EReal)) _ _ _
    ?_ ?_ ?_ ?_ ?_ ?_
  · intro y
    exact score10 _ _ _ _ qv y j
  · intro y
    refine (mask1 (grid0.coords t 1) y j).trans ?_
    dsimp only
    omega
  · intro y p hp e
    refine key_at m c t _ _ _ p 0 e rfl ?_ ?_ <;> (simp only [Fin.val_zero, Fin.val_one] at hp ⊢ <;> omega)
  · intro p x hp hx e
    rw [hqv]
    refine query_at m c t _ _ _ p x e rfl ?_ ?_ <;> (simp only [Fin.val_zero, Fin.val_one] at hp hx ⊢ <;> omega)
  · intro y p hp

    refine val_at m c t _ _ _ p 0 d rfl ?_ ?_ <;> (simp only [Fin.val_zero, Fin.val_one] at hp ⊢ <;> omega)
  · intro x hx
    exact sinkAt_eq (fun x => (m ((c : Thread nD τ).loc main_arg3) : FVec Ideal S8 .f32) (ix1 x)) 0 j x 0 1 2 3 (by simp only [Fin.val_zero, Fin.val_one] at hx <;> omega) (by decide) (by decide) (by decide) (by decide)

include hm in
/-- Second query block, second key head: the reference's values. -/
theorem base11 (qv : Vec Ideal S128x512 .f32) (d : Fin 64) (j : Fin 512) (R : Fin 32768) (C : Fin 512)
    (hqv : ∀ r C, qv (ix2 r C) = X0_1 m c t (ix2 ⟨128 + r.val, by omega⟩ C))
    (hR : R.val = t.val * 256 + 128 + j.val % 128) (hC : C.val = 256 + j.val / 128 * 64 + d.val) :
    k0_pay1 (F := Ideal) (k0_pay23 (k0_pay4 (F := Ideal) (iblk m c 2 t) (iblk m c 3 t) (iblk m c 4 t))) (k0_pay36 (k0_pay20 (BitVec.ofNat 32 (grid0.coords t 1).val) k0_pay5 (k0_pay19 (iota .tc S384x128 32 [0] iota_S384x128_d0_w32))) (k0_pay21 qv) (k0_pay22 (k0_pay4 (F := Ideal) (iblk m c 2 t) (iblk m c 3 t) (iblk m c 4 t))) ((m ((c : Thread nD τ).loc main_arg3) : FVec Ideal S8 .f32) (ix1 4)) ((m ((c : Thread nD τ).loc main_arg3) : FVec Ideal S8 .f32) (ix1 5)) ((m ((c : Thread nD τ).loc main_arg3) : FVec Ideal S8 .f32) (ix1 6)) ((m ((c : Thread nD τ).loc main_arg3) : FVec Ideal S8 .f32) (ix1 7))) (k0_pay37 (k0_pay20 (BitVec.ofNat 32 (grid0.coords t 1).val) k0_pay5 (k0_pay19 (iota .tc S384x128 32 [0] iota_S384x128_d0_w32))) (k0_pay21 qv) (k0_pay22 (k0_pay4 (F := Ideal) (iblk m c 2 t) (iblk m c 3 t) (iblk m c 4 t))) ((m ((c : Thread nD τ).loc main_arg3) : FVec Ideal S8 .f32) (ix1 4)) ((m ((c : Thread nD τ).loc main_arg3) : FVec Ideal S8 .f32) (ix1 5)) ((m ((c : Thread nD τ).loc main_arg3) : FVec Ideal S8 .f32) (ix1 6)) ((m ((c : Thread nD τ).loc main_arg3) : FVec Ideal S8 .f32) (ix1 7))) (k0_pay38 (k0_pay20 (BitVec.ofNat 32 (grid0.coords t 1).val) k0_pay5 (k0_pay19 (iota .tc S384x128 32 [0] iota_S384x128_d0_w32))) (k0_pay21 qv) (k0_pay22 (k0_pay4 (F := Ideal) (iblk m c 2 t) (iblk m c 3 t) (iblk m c 4 t))) ((m ((c : Thread nD τ).loc main_arg3) : FVec Ideal S8 .f32) (ix1 4)) ((m ((c : Thread nD τ).loc main_arg3) : FVec Ideal S8 .f32) (ix1 5)) ((m ((c : Thread nD τ).loc main_arg3) : FVec Ideal S8 .f32) (ix1 6)) ((m ((c : Thread nD τ).loc main_arg3) : FVec Ideal S8 .f32) (ix1 7))) (ix2 d j) = OK m c (ix2 R C) := by
  have ht := t_lt t
  have hj := j.isLt
  have hi : (grid0.coords t 1).val = t.val % 8 := coord t
  refine (out11 _ _ _ _ _ _ _ _ d j).trans ?_
  refine core _ _ _ _ hm.q hm.k hm.s R C ⟨t.val / 8, by omega⟩ ⟨2 * (t.val % 8) + 1, by omega⟩ 1 ⟨j.val / 128, by omega⟩
    ⟨j.val % 128, by omega⟩ d (by dsimp only; omega) (by simp only [Fin.val_zero, Fin.val_one] <;> omega)
    (fun y => k0_pay20 (BitVec.ofNat 32 (grid0.coords t 1).val) k0_pay5 (k0_pay19 (iota .tc S384x128 32 [0] iota_S384x128_d0_w32)) (ix2 y j) = 1#1) (fun y e => k0_pay4 (F := Ideal) (iblk m c 2 t) (iblk m c 3 t) (iblk m c 4 t) (ix2 ⟨128 + y.val, by omega⟩ ⟨64 + e.val, by omega⟩)) (fun e => (qv (ix2 ⟨j.val % 128, by omega⟩ ⟨256 + j.val / 128 * 64 + e.val, by omega⟩) : EReal)) _ _ _
    ?_ ?_ ?_ ?_ ?_ ?_
  · intro y
    exact score11 _ qv _ y j
  · intro y
    refine (mask1 (grid0.coords t 1) y j).trans ?_
    dsimp only
    omega
  · intro y p hp e
    refine key_at m c t _ _ _ p 1 e rfl ?_ ?_ <;> (simp only [Fin.val_zero, Fin.val_one] at hp ⊢ <;> omega)
  · intro p x hp hx e
    rw [hqv]
    refine query_at m c t _ _ _ p x e rfl ?_ ?_ <;> (simp only [Fin.val_zero, Fin.val_one] at hp hx ⊢ <;> omega)
  · intro y p hp
    refine (value1 _ _ y).trans ?_
    refine val_at m c t _ _ _ p 1 d rfl ?_ ?_ <;> (simp only [Fin.val_zero, Fin.val_one] at hp ⊢ <;> omega)
  · intro x hx
    exact sinkAt_eq (fun x => (m ((c : Thread nD τ).loc main_arg3) : FVec Ideal S8 .f32) (ix1 x)) 1 j x 4 5 6 7 (by simp only [Fin.val_zero, Fin.val_one] at hx <;> omega) (by decide) (by decide) (by decide) (by decide)

include hm in
/-- What a point computes, at a block index: the reference's value at the array index. -/
theorem point (y : S256x512.Idx) :
    outsAt0 m c t y = OK m c (ix2 ⟨t.val * 256 + (y 0).val, row_lt t (y 0)⟩ (y 1)) := by
  have sk := fun k => sink_ld m c t k
  unfold outsAt0
  frame_out
  canon_tiles x h
  · idx_vars x
    generalize y 0 = r at *
    generalize y 1 = j at *
    rw [show View.ld (iblk m c 0 t) (Rect.unit ![4] S1.size inb_S8_S1_4) (Shape.Idx.first _) = _ from sink_ld m c t 4 _ _, show View.ld (iblk m c 0 t) (Rect.unit ![5] S1.size inb_S8_S1_5) (Shape.Idx.first _) = _ from sink_ld m c t 5 _ _, show View.ld (iblk m c 0 t) (Rect.unit ![6] S1.size inb_S8_S1_6) (Shape.Idx.first _) = _ from sink_ld m c t 6 _ _, show View.ld (iblk m c 0 t) (Rect.unit ![7] S1.size inb_S8_S1_7) (Shape.Idx.first _) = _ from sink_ld m c t 7 _ _]
    refine (pair111 _ _ _ _ x0 x1).trans ?_
    exact base11 m c t hm _ _ _ _ _ (fun r C => ld_q1 m c t r C _) (by dsimp only; omega) (by dsimp only; omega)
  · idx_vars x
    generalize y 0 = r at *
    generalize y 1 = j at *
    rw [show View.ld (iblk m c 0 t) (Rect.unit ![4] S1.size inb_S8_S1_4) (Shape.Idx.first _) = _ from sink_ld m c t 4 _ _, show View.ld (iblk m c 0 t) (Rect.unit ![5] S1.size inb_S8_S1_5) (Shape.Idx.first _) = _ from sink_ld m c t 5 _ _, show View.ld (iblk m c 0 t) (Rect.unit ![6] S1.size inb_S8_S1_6) (Shape.Idx.first _) = _ from sink_ld m c t 6 _ _, show View.ld (iblk m c 0 t) (Rect.unit ![7] S1.size inb_S8_S1_7) (Shape.Idx.first _) = _ from sink_ld m c t 7 _ _]
    refine (pair110 _ _ _ _ x0 x1).trans ?_
    exact base11 m c t hm _ _ _ _ _ (fun r C => ld_q1 m c t r C _) (by dsimp only; omega) (by dsimp only; omega)
  · idx_vars x
    generalize y 0 = r at *
    generalize y 1 = j at *
    rw [show View.ld (iblk m c 0 t) (Rect.unit ![0] S1.size inb_S8_S1_0) (Shape.Idx.first _) = _ from sink_ld m c t 0 _ _, show View.ld (iblk m c 0 t) (Rect.unit ![1] S1.size inb_S8_S1_1) (Shape.Idx.first _) = _ from sink_ld m c t 1 _ _, show View.ld (iblk m c 0 t) (Rect.unit ![2] S1.size inb_S8_S1_2) (Shape.Idx.first _) = _ from sink_ld m c t 2 _ _, show View.ld (iblk m c 0 t) (Rect.unit ![3] S1.size inb_S8_S1_3) (Shape.Idx.first _) = _ from sink_ld m c t 3 _ _]
    refine (pair101 _ _ x0 x1).trans ?_
    exact base10 m c t hm _ _ _ _ _ (fun r C => ld_q1 m c t r C _) (by dsimp only; omega) (by dsimp only; omega)
  · idx_vars x
    generalize y 0 = r at *
    generalize y 1 = j at *
    rw [show View.ld (iblk m c 0 t) (Rect.unit ![0] S1.size inb_S8_S1_0) (Shape.Idx.first _) = _ from sink_ld m c t 0 _ _, show View.ld (iblk m c 0 t) (Rect.unit ![1] S1.size inb_S8_S1_1) (Shape.Idx.first _) = _ from sink_ld m c t 1 _ _, show View.ld (iblk m c 0 t) (Rect.unit ![2] S1.size inb_S8_S1_2) (Shape.Idx.first _) = _ from sink_ld m c t 2 _ _, show View.ld (iblk m c 0 t) (Rect.unit ![3] S1.size inb_S8_S1_3) (Shape.Idx.first _) = _ from sink_ld m c t 3 _ _]
    refine (pair100 _ _ x0 x1).trans ?_
    exact base10 m c t hm _ _ _ _ _ (fun r C => ld_q1 m c t r C _) (by dsimp only; omega) (by dsimp only; omega)
  · idx_vars x
    generalize y 0 = r at *
    generalize y 1 = j at *
    rw [show View.ld (iblk m c 0 t) (Rect.unit ![4] S1.size inb_S8_S1_4) (Shape.Idx.first _) = _ from sink_ld m c t 4 _ _, show View.ld (iblk m c 0 t) (Rect.unit ![5] S1.size inb_S8_S1_5) (Shape.Idx.first _) = _ from sink_ld m c t 5 _ _, show View.ld (iblk m c 0 t) (Rect.unit ![6] S1.size inb_S8_S1_6) (Shape.Idx.first _) = _ from sink_ld m c t 6 _ _, show View.ld (iblk m c 0 t) (Rect.unit ![7] S1.size inb_S8_S1_7) (Shape.Idx.first _) = _ from sink_ld m c t 7 _ _]
    refine (pair011 _ _ _ _ _ _ _ _ _ x0 x1).trans ?_
    exact base01 m c t hm _ _ _ _ _ (fun r C => ld_q0 m c t r C _) (by dsimp only; omega) (by dsimp only; omega)
  · idx_vars x
    generalize y 0 = r at *
    generalize y 1 = j at *
    rw [show View.ld (iblk m c 0 t) (Rect.unit ![4] S1.size inb_S8_S1_4) (Shape.Idx.first _) = _ from sink_ld m c t 4 _ _, show View.ld (iblk m c 0 t) (Rect.unit ![5] S1.size inb_S8_S1_5) (Shape.Idx.first _) = _ from sink_ld m c t 5 _ _, show View.ld (iblk m c 0 t) (Rect.unit ![6] S1.size inb_S8_S1_6) (Shape.Idx.first _) = _ from sink_ld m c t 6 _ _, show View.ld (iblk m c 0 t) (Rect.unit ![7] S1.size inb_S8_S1_7) (Shape.Idx.first _) = _ from sink_ld m c t 7 _ _]
    refine (pair010 _ _ _ _ _ _ _ _ _ x0 x1).trans ?_
    exact base01 m c t hm _ _ _ _ _ (fun r C => ld_q0 m c t r C _) (by dsimp only; omega) (by dsimp only; omega)
  · idx_vars x
    generalize y 0 = r at *
    generalize y 1 = j at *
    rw [show View.ld (iblk m c 0 t) (Rect.unit ![0] S1.size inb_S8_S1_0) (Shape.Idx.first _) = _ from sink_ld m c t 0 _ _, show View.ld (iblk m c 0 t) (Rect.unit ![1] S1.size inb_S8_S1_1) (Shape.Idx.first _) = _ from sink_ld m c t 1 _ _, show View.ld (iblk m c 0 t) (Rect.unit ![2] S1.size inb_S8_S1_2) (Shape.Idx.first _) = _ from sink_ld m c t 2 _ _, show View.ld (iblk m c 0 t) (Rect.unit ![3] S1.size inb_S8_S1_3) (Shape.Idx.first _) = _ from sink_ld m c t 3 _ _]
    refine (pair001 _ _ _ _ _ _ x0 x1).trans ?_
    exact base00 m c t hm _ _ _ _ _ (fun r C => ld_q0 m c t r C _) (by dsimp only; omega) (by dsimp only; omega)
  · idx_vars x
    generalize y 0 = r at *
    generalize y 1 = j at *
    rw [show View.ld (iblk m c 0 t) (Rect.unit ![0] S1.size inb_S8_S1_0) (Shape.Idx.first _) = _ from sink_ld m c t 0 _ _, show View.ld (iblk m c 0 t) (Rect.unit ![1] S1.size inb_S8_S1_1) (Shape.Idx.first _) = _ from sink_ld m c t 1 _ _, show View.ld (iblk m c 0 t) (Rect.unit ![2] S1.size inb_S8_S1_2) (Shape.Idx.first _) = _ from sink_ld m c t 2 _ _, show View.ld (iblk m c 0 t) (Rect.unit ![3] S1.size inb_S8_S1_3) (Shape.Idx.first _) = _ from sink_ld m c t 3 _ _]
    refine (pair000 _ _ _ _ _ _ x0 x1).trans ?_
    exact base00 m c t hm _ _ _ _ _ (fun r C => ld_q0 m c t r C _) (by dsimp only; omega) (by dsimp only; omega)

include hm in
/-- After the run the result is the reference's, of real numbers. -/
theorem final : (dats m 0 c).arrAt 5 (cfgs 0).N = OK m c := by
  refine (dats m 0 c).arrAt_eq_of_covers 5 _ (by decide +kernel) fun t _ y => ?_
  blk_simp
  rw [after0_5, point m c t hm]
  blk_ext [idx t]

end Cert.KernelIdeal.Attn
-- ==== Proof.AttnPre.lean ====
module

public import proofs.«01_k».proof.Pre_finite
public import proofs.«01_k».proof.Proof.Softmax
public import Idealize.ShloMosaic.Lib.ReduceAll
public import Idealize.ShloMosaic.Lib.Pointwise

/-!
The attention's precondition, read: every query, every key and every sink is a real number.
-/

@[expose] public section

set_option maxRecDepth 16384

noncomputable section

open Idealize.ShloMosaic Cert.Softmax

namespace Cert.Pre_finite

/-- The side conditions of the precondition's operations. -/
theorem facts : Facts where
  bcast_S_S16x2048x8x64 := by decide
  reducesTo_S16x2048x8x64_S_d0_1_2_3 := by decide
  h_S_ := by decide
  bcast_S_S16x2048x2x64 := by decide
  reducesTo_S16x2048x2x64_S_d0_1_2_3 := by decide
  bcast_S_S8 := by decide
  reducesTo_S8_S_d0 := by decide

instance : Subsingleton S_.Idx := ⟨fun _ _ => funext fun a => a.elim0⟩

/-- A number whose magnitude is below infinity is real. -/
theorem real_of_lt {x : EReal} (h : FloatOps.cmpf (F := Ideal) (φ := .f32) .olt (FloatOps.hostAbsf (F := Ideal) (φ := .f32) x) (Ideal.ofBits .f32 0x7F800000#32) = 1#1) :
    ∃ r : ℝ, x = (r : EReal) := by
  rw [infinity] at h
  exact real_of_abs ((Ideal.cmp_olt_eq_one _ _).1 h)

/-- The precondition says that the queries, the keys and the sinks are real. -/
theorem real [Facts] (q : FVec Ideal S16x2048x8x64 .f32) (k v : FVec Ideal S16x2048x2x64 .f32) (s : FVec Ideal S8 .f32)
    (h : fn q k v s = fun _ => 1#1) :
    (∀ i, ∃ x : ℝ, q i = (x : EReal)) ∧ (∀ i, ∃ x : ℝ, k i = (x : EReal)) ∧ ∀ i, ∃ x : ℝ, s i = (x : EReal) := by
  have e := congrFun h (Shape.Idx.first Facts.h_S_)
  unfold fn at e
  obtain ⟨e1, e3⟩ := IntOp.andi_eq_one.1 e
  obtain ⟨e1, e2⟩ := IntOp.andi_eq_one.1 e1
  exact ⟨fun i => real_of_lt (Host.reduce_andi_all _ _ _ _ _ e1 i), fun i => real_of_lt (Host.reduce_andi_all _ _ _ _ _ e2 i),
    fun i => real_of_lt (Host.reduce_andi_all _ _ _ _ _ e3 i)⟩

end Cert.Pre_finite
-- ==== Proof.Hyena.lean ====
module

public import proofs.«01_k».proof.Proof.Gen.Kernel5Ideal.Frame
public import proofs.«01_k».proof.Proof.Gen.Reference5Ideal.Run
public import Idealize.ShloMosaic.Lib.Claim
public import Idealize.ShloMosaic.Lib.Affine
public import Idealize.ShloMosaic.Lib.Pointwise
public import Idealize.ShloMosaic.Lib.Pipeline.ValueKit
public import Idealize.ShloMosaic.Lib.StableHlo.RunRead

/-!
The short convolution of the hyena branch: every column of the projection is convolved along the sequence with three
taps, the rows beyond both ends being zero; the columns are three parts, of which the first is a result and the product
of the other two is the other. Each grid point does it for a whole sequence and 256 columns of each part, and takes the
neighbouring rows from turned blocks; the reference shifts the padded array.
-/

@[expose] public section

set_option maxRecDepth 65536

noncomputable section

open Idealize.ShloMosaic Idealize.ShloMosaic.TcCoe Idealize.SL.Sem
open Idealize.ShloMosaic.Pipeline (Dat)

namespace Cert.Hyena

/-- Three taps and a bias at position `p` of a sequence of 2048, zero beyond its ends. -/
def TAPS (x : Fin 2048 → EReal) (w : Fin 3 → EReal) (b : EReal) (p : Fin 2048) : EReal :=
  w 0 * (if h : p.val = 0 then 0 else x ⟨p.val - 1, by omega⟩) + w 1 * x p
    + w 2 * (if h : p.val = 2047 then 0 else x ⟨p.val + 1, by omega⟩) + b

end Cert.Hyena

namespace Cert.Reference5Ideal.Hyena

open Cert.Reference5Ideal Cert.Reference5Ideal.Gen Cert.Hyena

/-- The projection with a zero row at both ends of every sequence. -/
def PADDED (u : FVec Ideal S16x2048x1536 .f32) : FVec Ideal S16x2050x1536 .f32 :=
  pad S16x2050x1536 ![0, 1, 0] ![0, 1, 0] ![0, 0, 0] u (sitofp .f32 (constantI S_ 32 0#32)) pads_S16x2048x1536_S16x2050x1536_000_110_000 h_S_

/-- The convolved projection, as the reference computes it. -/
def CONV (u : FVec Ideal S16x2048x1536 .f32) (w : FVec Ideal S3x1536 .f32) (b : FVec Ideal S1536 .f32) : FVec Ideal S16x2048x1536 .f32 :=
  addf (addf (addf (mulf (broadcastInDim S16x2048x1536 ![0, 1, 2] bcast_S1x1x1536_S16x2048x1536_0_1_2 (broadcastInDim S1x1x1536 ![2] bcast_S1536_S1x1x1536_2 (shapeCast _ (extractStridedSlice S1x1536 ![0, 0] w slices_S3x1536_S1x1536_0_0) shapeCasts_S1x1536_S1536))) (extractStridedSlice S16x2048x1536 ![0, 0, 0] (PADDED u) slices_S16x2050x1536_S16x2048x1536_0_0_0)) (mulf (broadcastInDim S16x2048x1536 ![0, 1, 2] bcast_S1x1x1536_S16x2048x1536_0_1_2 (broadcastInDim S1x1x1536 ![2] bcast_S1536_S1x1x1536_2 (shapeCast _ (extractStridedSlice S1x1536 ![1, 0] w slices_S3x1536_S1x1536_1_0) shapeCasts_S1x1536_S1536))) (extractStridedSlice S16x2048x1536 ![0, 1, 0] (PADDED u) slices_S16x2050x1536_S16x2048x1536_0_1_0))) (mulf (broadcastInDim S16x2048x1536 ![0, 1, 2] bcast_S1x1x1536_S16x2048x1536_0_1_2 (broadcastInDim S1x1x1536 ![2] bcast_S1536_S1x1x1536_2 (shapeCast _ (extractStridedSlice S1x1536 ![2, 0] w slices_S3x1536_S1x1536_2_0) shapeCasts_S1x1536_S1536))) (extractStridedSlice S16x2048x1536 ![0, 2, 0] (PADDED u) slices_S16x2050x1536_S16x2048x1536_0_2_0))) (broadcastInDim S16x2048x1536 ![0, 1, 2] bcast_S1x1x1536_S16x2048x1536_0_1_2 (broadcastInDim S1x1x1536 ![2] bcast_S1536_S1x1x1536_2 b))

/-- The first part, as rows. -/
def FIRST (u : FVec Ideal S16x2048x1536 .f32) (w : FVec Ideal S3x1536 .f32) (b : FVec Ideal S1536 .f32) : FVec Ideal S32768x512 .f32 :=
  shapeCast _ (extractStridedSlice S16x2048x512 ![0, 0, 0] (CONV u w b) slices_S16x2048x1536_S16x2048x512_0_0_0) shapeCasts_S16x2048x512_S32768x512

/-- The product of the other two parts, as rows. -/
def GATED (u : FVec Ideal S16x2048x1536 .f32) (w : FVec Ideal S3x1536 .f32) (b : FVec Ideal S1536 .f32) : FVec Ideal S32768x512 .f32 :=
  shapeCast _ (mulf (extractStridedSlice S16x2048x512 ![0, 0, 512] (CONV u w b) slices_S16x2048x1536_S16x2048x512_0_0_512) (extractStridedSlice S16x2048x512 ![0, 0, 1024] (CONV u w b) slices_S16x2048x1536_S16x2048x512_0_0_1024)) shapeCasts_S16x2048x512_S32768x512

/-- The product rounded. -/
def ROUNDED (u : FVec Ideal S16x2048x1536 .f32) (w : FVec Ideal S3x1536 .f32) (b : FVec Ideal S1536 .f32) : FVec Ideal S32768x512 .bf16 :=
  truncf .bf16 (GATED u w b) bitsLt_bf16_f32

/-- The padded projection at an index: zero at both ends, and the row before otherwise. -/
theorem padded_at (u : FVec Ideal S16x2048x1536 .f32) (b : Fin 16) (p : Fin 2050) (k : Fin 1536) :
    PADDED u (ix3 b p k) = if h : p.val = 0 ∨ p.val = 2049 then 0 else u (ix3 b ⟨p.val - 1, by omega⟩ k) := by
  have hz : (FloatOps.sitofp (F := Ideal) .f32 (0#32 : BitVec 32) : EReal) = 0 := by simp [FloatOps.sitofp]
  pointwise [PADDED]
  split_ifs <;> first
    | (exfalso; omega)
    | (refine congrArg u (congrArg (fun a : Fin 2048 => ix3 b a k) (Fin.ext ?_)); dsimp only; try omega)
    | rfl
    | exact hz

/-- The convolved projection at an index. -/
theorem conv_at (u : FVec Ideal S16x2048x1536 .f32) (w : FVec Ideal S3x1536 .f32) (b : FVec Ideal S1536 .f32)
    (n : Fin 16) (p : Fin 2048) (k : Fin 1536) :
    CONV u w b (ix3 n p k) = TAPS (fun q => u (ix3 n q k)) (fun i => w (ix2 i k)) (b (ix1 k)) p := by
  have hp := p.isLt
  pointwise [CONV]
  simp only [padded_at]
  unfold TAPS
  refine congrArg₂ (· + ·) (congrArg₂ (· + ·) (congrArg₂ (· + ·) (congrArg₂ (· * ·) rfl ?_) (congrArg₂ (· * ·) rfl ?_)) (congrArg₂ (· * ·) rfl ?_)) rfl
  all_goals
    split_ifs <;> first
      | (exfalso; omega)
      | rfl
      | (refine congrArg u (congrArg (fun a : Fin 2048 => ix3 n a k) (Fin.ext ?_)); dsimp only; omega)

end Cert.Reference5Ideal.Hyena

namespace Cert.Kernel5Ideal.Hyena

open Cert.Kernel5Ideal Cert.Kernel5Ideal.Gen Cert.Reference5Ideal.Hyena Cert.Hyena

/-- A choice by the equality of two small words. -/
theorem sel_word (n k : ℕ) (hn : n < 4096) (hk : k < 4096) (a b : EReal) :
    Scalar.select (IntOp.cmpi .eq (BitVec.ofNat 32 n) (BitVec.ofNat 32 k)) a b = if n = k then a else b := by
  have e : (BitVec.ofNat 32 n = BitVec.ofNat 32 k) ↔ n = k := by
    constructor
    · intro h
      have h' := congrArg BitVec.toNat h
      simp only [BitVec.toNat_ofNat] at h'
      omega
    · rintro rfl; rfl
  unfold Scalar.select IntOp.cmpi
  by_cases h : n = k
  · subst h; simp
  · rw [if_neg h, if_neg]; simp [e, h]; try (rw [beq_eq_false_iff_ne.mpr (fun h' => h (e.mp h'))]; decide)

/-- Three taps over a block, at an index. -/
theorem short_at (x : FVec Ideal S2048x256 .f32) (w : FVec Ideal S3x256 .f32) (b : FVec Ideal S1x256 .f32) (p : Fin 2048) (l : Fin 256) :
    k0_pay3 (F := Ideal) x w b (ix2 p l) = TAPS (fun q => x (ix2 q l)) (fun i => w (ix2 i l)) (b (ix2 0 l)) p := by
  have hp := p.isLt
  pointwise [k0_pay3]
  rw [sel_word p.val 0 (by omega) (by omega), sel_word p.val 2047 (by omega) (by omega)]
  unfold TAPS
  refine congrArg₂ (· + ·) (congrArg₂ (· + ·) (congrArg₂ (· + ·) ?_ rfl) ?_) rfl
  all_goals
    split_ifs
    · rw [mul_zero]
    · refine congrArg₂ (· * ·) rfl (congrArg x (congrArg (fun a : Fin 2048 => ix2 a l) (Fin.ext ?_)))
      dsimp only; omega

/-- The second part's taps are the first's. -/
theorem pay6_eq (x : FVec Ideal S2048x256 .f32) (w : FVec Ideal S3x256 .f32) (b : FVec Ideal S1x256 .f32) :
    k0_pay6 (F := Ideal) (k0_pay4 x) w (k0_pay5 b) (iota .tc S2048x256 32 [0] iota_S2048x256_d0_w32) 0#32 = k0_pay3 x w b := rfl

/-- The product of the second part and of the third part's taps. -/
theorem pay1_eq (y x : FVec Ideal S2048x256 .f32) (w : FVec Ideal S3x256 .f32) (b : FVec Ideal S1x256 .f32) :
    k0_pay1 (F := Ideal) y (k0_pay7 x) w (k0_pay8 b) (k0_pay9 x) (k0_pay10 x w) (k0_pay11 w) = mulf y (k0_pay3 x w b) := rfl

variable (m : (ℓ : Loc nD τ sig) → Buf (Elt Ideal) ℓ)

/-- The joined projection: columns that aren't read, the projection's rows, columns that aren't read. -/
def ROWS (u : FVec Ideal S16x2048x1536 .f32) : FVec Ideal S32768x4352 .f32 :=
  concatenate S32768x4352 1 [⟨S32768x2048, (broadcastInDim S32768x2048 ![] bcast_S_S32768x2048 (constant S_ .f32 0x00000000#32) : FVec Ideal S32768x2048 .f32)⟩, ⟨S32768x1536, (shapeCast _ u shapeCasts_S16x2048x1536_S32768x1536 : FVec Ideal S32768x1536 .f32)⟩, ⟨S32768x768, (broadcastInDim S32768x768 ![] bcast_S_S32768x768 (constant S_ .f32 0x00000000#32) : FVec Ideal S32768x768 .f32)⟩] concatenates_S32768x2048_S32768x1536_S32768x768_S32768x4352_d1

/-- The projection, the taps and the bias of this program's arguments. -/
abbrev UA (c : Dev nD) : FVec Ideal S16x2048x1536 .f32 := m ((c : Thread nD τ).loc main_arg0)
@[inherit_doc UA] abbrev WA (c : Dev nD) : FVec Ideal S3x1536 .f32 := m ((c : Thread nD τ).loc main_arg1)
@[inherit_doc UA] abbrev BA (c : Dev nD) : FVec Ideal S1536 .f32 := m ((c : Thread nD τ).loc main_arg2)

/-- The array of the first part's window is the joined projection. -/
theorem entry0 (c : Dev nD) : V m c (Pipeline.arrRef spec0 0) = ROWS (UA m c) := by
  change StableHlo.after hostOps0 (fun b => m (c, b)) (Proc.devRef .tc main_v3) = _
  after_reads_simp
  rfl

/-- The array of the second part's window is the joined projection. -/
theorem entry1 (c : Dev nD) : V m c (Pipeline.arrRef spec0 1) = ROWS (UA m c) := entry0 m c

/-- The array of the third part's window is the joined projection. -/
theorem entry2 (c : Dev nD) : V m c (Pipeline.arrRef spec0 2) = ROWS (UA m c) := entry0 m c

/-- A column of the joined projection. -/
theorem rows_at (u : FVec Ideal S16x2048x1536 .f32) (R : Fin 32768) (C : Fin 4352) (b : Fin 16) (p : Fin 2048) (k : Fin 1536)
    (hR : R.val = b.val * 2048 + p.val) (hC : C.val = 2048 + k.val) : ROWS u (ix2 R C) = u (ix3 b p k) := by
  have e1 : R.val / 2048 = b.val := by omega
  have e2 : R.val % 2048 = p.val := by omega
  have e3 : C.val - 2048 = k.val := by omega
  pointwise [ROWS]
  split_ifs <;> first | (exfalso; omega) | simp only [e1, e2, e3, Fin.eta]

/-- The block that every window takes at a grid point. -/
theorem idx : ∀ t : Fin cfg0.N, win0_0.index t = ![t.val / 2, 8 + t.val % 2] ∧ win0_1.index t = ![t.val / 2, 10 + t.val % 2]
    ∧ win0_2.index t = ![t.val / 2, 12 + t.val % 2] ∧ win0_3.index t = ![0, t.val % 2] ∧ win0_4.index t = ![0, 2 + t.val % 2]
    ∧ win0_5.index t = ![0, 4 + t.val % 2] ∧ win0_6.index t = ![0, t.val % 2] ∧ win0_7.index t = ![0, 2 + t.val % 2]
    ∧ win0_8.index t = ![0, 4 + t.val % 2] ∧ win0_9.index t = ![t.val / 2, t.val % 2] ∧ win0_10.index t = ![t.val / 2, t.val % 2]
    ∧ win0_11.index t = ![t.val / 2, t.val % 2] :=
  (by decide +kernel : ∀ t : Fin grid0.N, _)

/-- A grid point is one of 32. -/
theorem t_lt (t : Fin cfg0.N) : t.val < 32 := t.isLt

/-- The sequence of a grid point. -/
abbrev sq (t : Fin cfg0.N) : Fin 16 := ⟨t.val / 2, by have := t_lt t; omega⟩

/-- Column `l` of a grid point's block of part `j`. -/
abbrev col (t : Fin cfg0.N) (j : Fin 3) (l : Fin 256) : Fin 1536 := ⟨j.val * 512 + t.val % 2 * 256 + l.val, by omega⟩

/-- The block of the first part. -/
theorem u0_at (c : Dev nD) (t : Fin cfg0.N) (p : Fin 2048) (l : Fin 256) :
    iblk m c 0 t (ix2 p l) = UA m c (ix3 (sq t) p (col t 0 l)) := by
  have ht := t_lt t
  rw [← rows_at (UA m c) ⟨t.val / 2 * 2048 + p.val, by omega⟩ ⟨(8 + t.val % 2) * 256 + l.val, by omega⟩ (sq t) p (col t 0 l) rfl
    (by dsimp only [col, Fin.val_zero]; omega)]
  unfold iblk
  rw [entry0]
  generalize ROWS _ = w
  blk_simp [idx t]
  blk_ext [idx t]

/-- The block of the second part. -/
theorem u1_at (c : Dev nD) (t : Fin cfg0.N) (p : Fin 2048) (l : Fin 256) :
    iblk m c 1 t (ix2 p l) = UA m c (ix3 (sq t) p (col t 1 l)) := by
  have ht := t_lt t
  rw [← rows_at (UA m c) ⟨t.val / 2 * 2048 + p.val, by omega⟩ ⟨(10 + t.val % 2) * 256 + l.val, by omega⟩ (sq t) p (col t 1 l) rfl
    (by dsimp only [col, Fin.val_one]; omega)]
  unfold iblk
  rw [entry1]
  generalize ROWS _ = w
  blk_simp [idx t]
  blk_ext [idx t]

/-- The block of the third part. -/
theorem u2_at (c : Dev nD) (t : Fin cfg0.N) (p : Fin 2048) (l : Fin 256) :
    iblk m c 2 t (ix2 p l) = UA m c (ix3 (sq t) p (col t 2 l)) := by
  have ht := t_lt t
  rw [← rows_at (UA m c) ⟨t.val / 2 * 2048 + p.val, by omega⟩ ⟨(12 + t.val % 2) * 256 + l.val, by omega⟩ (sq t) p (col t 2 l) rfl
    (by dsimp only [col, Fin.val_two]; omega)]
  unfold iblk
  rw [entry2]
  generalize ROWS _ = w
  blk_simp [idx t]
  blk_ext [idx t]

/-- The taps of the first part. -/
theorem w0_at (c : Dev nD) (t : Fin cfg0.N) (i : Fin 3) (l : Fin 256) : iblk m c 3 t (ix2 i l) = WA m c (ix2 i (col t 0 l)) := by
  blk_simp [iblk, idx t]
  entry_read
  blk_ext [idx t]

/-- The taps of the second part. -/
theorem w1_at (c : Dev nD) (t : Fin cfg0.N) (i : Fin 3) (l : Fin 256) : iblk m c 4 t (ix2 i l) = WA m c (ix2 i (col t 1 l)) := by
  blk_simp [iblk, idx t]
  entry_read
  blk_ext [idx t]

/-- The taps of the third part. -/
theorem w2_at (c : Dev nD) (t : Fin cfg0.N) (i : Fin 3) (l : Fin 256) : iblk m c 5 t (ix2 i l) = WA m c (ix2 i (col t 2 l)) := by
  blk_simp [iblk, idx t]
  entry_read
  blk_ext [idx t]

/-- The bias of the first part. -/
theorem b0_at (c : Dev nD) (t : Fin cfg0.N) (l : Fin 256) : iblk m c 6 t (ix2 0 l) = BA m c (ix1 (col t 0 l)) := by
  blk_simp [iblk, idx t]
  entry_read
  pointwise
  blk_ext [idx t]

/-- The bias of the second part. -/
theorem b1_at (c : Dev nD) (t : Fin cfg0.N) (l : Fin 256) : iblk m c 7 t (ix2 0 l) = BA m c (ix1 (col t 1 l)) := by
  blk_simp [iblk, idx t]
  entry_read
  pointwise
  blk_ext [idx t]

/-- The bias of the third part. -/
theorem b2_at (c : Dev nD) (t : Fin cfg0.N) (l : Fin 256) : iblk m c 8 t (ix2 0 l) = BA m c (ix1 (col t 2 l)) := by
  blk_simp [iblk, idx t]
  entry_read
  pointwise
  blk_ext [idx t]

/-- What a point computes of the first part. -/
theorem part0 (c : Dev nD) (t : Fin cfg0.N) (p : Fin 2048) (l : Fin 256) :
    k0_pay3 (F := Ideal) (iblk m c 0 t) (iblk m c 3 t) (iblk m c 6 t) (ix2 p l)
      = CONV (UA m c) (WA m c) (BA m c) (ix3 (sq t) p (col t 0 l)) := by
  rw [short_at, conv_at]
  simp only [u0_at, w0_at, b0_at]

/-- What a point computes of the second part. -/
theorem part1 (c : Dev nD) (t : Fin cfg0.N) (p : Fin 2048) (l : Fin 256) :
    k0_pay3 (F := Ideal) (iblk m c 1 t) (iblk m c 4 t) (iblk m c 7 t) (ix2 p l)
      = CONV (UA m c) (WA m c) (BA m c) (ix3 (sq t) p (col t 1 l)) := by
  rw [short_at, conv_at]
  simp only [u1_at, w1_at, b1_at]

/-- What a point computes of the third part. -/
theorem part2 (c : Dev nD) (t : Fin cfg0.N) (p : Fin 2048) (l : Fin 256) :
    k0_pay3 (F := Ideal) (iblk m c 2 t) (iblk m c 5 t) (iblk m c 8 t) (ix2 p l)
      = CONV (UA m c) (WA m c) (BA m c) (ix3 (sq t) p (col t 2 l)) := by
  rw [short_at, conv_at]
  simp only [u2_at, w2_at, b2_at]

/-- Two indices with the same coordinates. -/
theorem ix3_ext {n : ℕ} {a a' : Fin 16} {b b' : Fin 2048} {k k' : Fin n} (ha : a.val = a'.val) (hb : b = b') (hk : k.val = k'.val) :
    ix3 a b k = ix3 a' b' k' := by
  obtain rfl : a = a' := Fin.ext ha
  obtain rfl : k = k' := Fin.ext hk
  rw [hb]

/-- The first part as the reference's rows, at the index of a block's entry. -/
theorem first_at (c : Dev nD) (t : Fin cfg0.N) (p : Fin 2048) (l : Fin 256) :
    FIRST (UA m c) (WA m c) (BA m c) (ix2 ⟨t.val / 2 * 2048 + p.val, by have := t_lt t; omega⟩ ⟨t.val % 2 * 256 + l.val, by omega⟩)
      = CONV (UA m c) (WA m c) (BA m c) (ix3 (sq t) p (col t 0 l)) := by
  have ht := t_lt t
  pointwise [FIRST]
  refine congrArg (CONV _ _ _) (ix3_ext ?_ rfl ?_) <;> dsimp only [sq, col, Fin.val_zero] <;> omega

/-- The product as the reference's rows, at the index of a block's entry. -/
theorem gated_at (c : Dev nD) (t : Fin cfg0.N) (p : Fin 2048) (l : Fin 256) :
    GATED (UA m c) (WA m c) (BA m c) (ix2 ⟨t.val / 2 * 2048 + p.val, by have := t_lt t; omega⟩ ⟨t.val % 2 * 256 + l.val, by omega⟩)
      = CONV (UA m c) (WA m c) (BA m c) (ix3 (sq t) p (col t 1 l)) * CONV (UA m c) (WA m c) (BA m c) (ix3 (sq t) p (col t 2 l)) := by
  have ht := t_lt t
  pointwise [GATED]
  refine congrArg₂ (· * ·) (congrArg (CONV _ _ _) (ix3_ext ?_ rfl ?_)) (congrArg (CONV _ _ _) (ix3_ext ?_ rfl ?_)) <;>
    dsimp only [sq, col, Fin.val_one, Fin.val_two] <;> omega

/-- A block read whole. -/
theorem rows_ld (x : Vec Ideal S2048x256 .f32) : View.ld x r0_0 = x := View.ld_unit_zero (funext fun a => by fin_cases a <;> rfl) _ x
@[inherit_doc rows_ld] theorem taps_ld (x : Vec Ideal S3x256 .f32) : View.ld x r0_1 = x := View.ld_unit_zero (funext fun a => by fin_cases a <;> rfl) _ x
@[inherit_doc rows_ld] theorem bias_ld (x : Vec Ideal S1x256 .f32) : View.ld x r0_2 = x := View.ld_unit_zero (funext fun a => by fin_cases a <;> rfl) _ x

/-- After the run the first result is the reference's first part. -/
theorem final9 (c : Dev nD) : (dats m 0 c).arrAt 9 (cfgs 0).N = FIRST (UA m c) (WA m c) (BA m c) := by
  refine (dats m 0 c).arrAt_eq_of_covers 9 _ (by decide +kernel) fun t _ y => ?_
  blk_simp
  rw [after0_9]
  frame_out
  idx_vars y
  rw [part0, ← first_at]
  generalize FIRST _ _ _ = w
  blk_ext [idx t]

/-- After the run the second result is the reference's product. -/
theorem final10 (c : Dev nD) : (dats m 0 c).arrAt 10 (cfgs 0).N = GATED (UA m c) (WA m c) (BA m c) := by
  refine (dats m 0 c).arrAt_eq_of_covers 10 _ (by decide +kernel) fun t _ y => ?_
  blk_simp
  rw [after0_10]
  frame_out
  unfold k0_pay12 k0_pay13 k0_pay14 k0_pay15 k0_pay16 k0_pay17
  rw [rows_ld, rows_ld, taps_ld, taps_ld, bias_ld, bias_ld, pay6_eq, pay1_eq]
  idx_vars y
  refine (congrArg₂ (· * ·) (part1 m c t _ _) (part2 m c t _ _)).trans ?_
  rw [← gated_at]
  generalize GATED _ _ _ = w
  blk_ext [idx t]

/-- After the run the third result is the reference's rounded product. -/
theorem final11 (c : Dev nD) : (dats m 0 c).arrAt 11 (cfgs 0).N = ROUNDED (UA m c) (WA m c) (BA m c) := by
  refine (dats m 0 c).arrAt_eq_of_covers 11 _ (by decide +kernel) fun t _ y => ?_
  blk_simp
  rw [after0_11]
  frame_out
  unfold k0_pay12 k0_pay13 k0_pay14 k0_pay15 k0_pay16 k0_pay17 k0_pay2
  rw [rows_ld, rows_ld, taps_ld, taps_ld, bias_ld, bias_ld, pay6_eq, pay1_eq]
  idx_vars y
  refine (congrArg₂ (· * ·) (part1 m c t _ _) (part2 m c t _ _)).trans ?_
  rw [← gated_at]
  unfold ROUNDED
  generalize GATED _ _ _ = w
  pointwise
  blk_ext [idx t]

end Cert.Kernel5Ideal.Hyena
-- ==== Proof.FilterHost.lean ====
module

public import proofs.«01_k».proof.Proof.Gen.Kernel6Ideal.Frame
public import proofs.«01_k».proof.Proof.Gen.Reference6Ideal.Run
public import Idealize.ShloMosaic.Lib.Claim
public import Idealize.ShloMosaic.Lib.Affine
public import Idealize.ShloMosaic.Lib.Pointwise
public import Idealize.ShloMosaic.Lib.Pipeline.ValueKit
public import Idealize.ShloMosaic.Lib.StableHlo.RunRead

/-!
The network of the long filters: an embedding of the positions passes two hidden layers of sines and a last layer, and the
filters decay along the positions. This file has the reference's layers at an index, what a grid point computes of its blocks,
and the arrays that the host prepares.
-/

@[expose] public section

set_option maxRecDepth 65536

noncomputable section

open Idealize.ShloMosaic Idealize.ShloMosaic.TcCoe Idealize.SL.Sem
open Idealize.ShloMosaic.Pipeline (Dat)

namespace Cert.Reference6Ideal.Filter

open Cert.Reference6Ideal Cert.Reference6Ideal.Gen

/-- The positions from nought to one. -/
def STEPS : FVec Ideal S2048 .f32 :=
  concatenate S2048 0 [⟨S2047, (addf (mulf (broadcastInDim S2047 ![0] bcast_S1_S2047_0 (shapeCast _ (id (constant S_ .f32 0x00000000#32)) shapeCasts_S_S1)) (subf (broadcastInDim S2047 ![] bcast_S_S2047 (constant S_ .f32 0x3F800000#32)) (Host.divf (sitofp .f32 (iotaInDim S2047 32 0)) (broadcastInDim S2047 ![] bcast_S_S2047 (constant S_ .f32 0x44FFE000#32))))) (mulf (broadcastInDim S2047 ![0] bcast_S1_S2047_0 (shapeCast _ (id (constant S_ .f32 0x3F800000#32)) shapeCasts_S_S1)) (Host.divf (sitofp .f32 (iotaInDim S2047 32 0)) (broadcastInDim S2047 ![] bcast_S_S2047 (constant S_ .f32 0x44FFE000#32)))))⟩, ⟨S1, (broadcastInDim S1 ![] bcast_S_S1 (id (constant S_ .f32 0x3F800000#32)))⟩] concatenates_S2047_S1_S2048_d0

/-- The frequencies of the waves. -/
def FREQ : FVec Ideal S16 .f32 :=
  concatenate S16 0 [⟨S15, (addf (mulf (broadcastInDim S15 ![0] bcast_S1_S15_0 (shapeCast _ (id (constant S_ .f32 0x38D1B717#32)) shapeCasts_S_S1)) (subf (broadcastInDim S15 ![] bcast_S_S15 (constant S_ .f32 0x3F800000#32)) (Host.divf (sitofp .f32 (iotaInDim S15 32 0)) (broadcastInDim S15 ![] bcast_S_S15 (constant S_ .f32 0x41700000#32))))) (mulf (broadcastInDim S15 ![0] bcast_S1_S15_0 (shapeCast _ (sitofp .f32 (constantI S_ 32 15#32)) shapeCasts_S_S1)) (Host.divf (sitofp .f32 (iotaInDim S15 32 0)) (broadcastInDim S15 ![] bcast_S_S15 (constant S_ .f32 0x41700000#32)))))⟩, ⟨S1, (broadcastInDim S1 ![] bcast_S_S1 (sitofp .f32 (constantI S_ 32 15#32)))⟩] concatenates_S15_S1_S16_d0

/-- The angle of a position. -/
def ANGLE : FVec Ideal S2048x1 .f32 :=
  Host.divf (mulf (broadcastInDim S2048x1 ![] bcast_S_S2048x1 (constant S_ .f32 0x40C90FDB#32)) (broadcastInDim S2048x1 ![0] bcast_S2048_S2048x1_0 (sitofp .f32 (iotaInDim S2048 32 0)))) (broadcastInDim S2048x1 ![] bcast_S_S2048x1 (constant S_ .f32 0x45000000#32))

/-- The embedding of the positions: the position, the cosines and the sines of the waves at it. -/
def EMB : FVec Ideal S2048x33 .f32 :=
  (concatenate S2048x33 1 [⟨S2048x1, ((broadcastInDim S2048x1 ![0] bcast_S2048_S2048x1_0 STEPS) : FVec Ideal S2048x1 .f32)⟩, ⟨S2048x16, ((Host.cos (mulf (broadcastInDim S2048x16 ![0, 1] bcast_S1x16_S2048x16_0_1 (broadcastInDim S1x16 ![1] bcast_S16_S1x16_1 FREQ)) (broadcastInDim S2048x16 ![0, 1] bcast_S2048x1_S2048x16_0_1 ANGLE))) : FVec Ideal S2048x16 .f32)⟩, ⟨S2048x16, ((Host.negf (Host.sin (mulf (broadcastInDim S2048x16 ![0, 1] bcast_S1x16_S2048x16_0_1 (broadcastInDim S1x16 ![1] bcast_S16_S1x16_1 FREQ)) (broadcastInDim S2048x16 ![0, 1] bcast_S2048x1_S2048x16_0_1 ANGLE)))) : FVec Ideal S2048x16 .f32)⟩] concatenates_S2048x1_S2048x16_S2048x16_S2048x33_d1 : FVec Ideal S2048x33 .f32)

/-- The rates of the decay. -/
def RATES : FVec Ideal S512 .f32 :=
  concatenate S512 0 [⟨S511, (addf (mulf (broadcastInDim S511 ![0] bcast_S1_S511_0 (shapeCast _ (id (constant S_ .f32 0xC0447CBD#32)) shapeCasts_S_S1)) (subf (broadcastInDim S511 ![] bcast_S_S511 (constant S_ .f32 0x3F800000#32)) (Host.divf (sitofp .f32 (iotaInDim S511 32 0)) (broadcastInDim S511 ![] bcast_S_S511 (constant S_ .f32 0x43FF8000#32))))) (mulf (broadcastInDim S511 ![0] bcast_S1_S511_0 (shapeCast _ (id (constant S_ .f32 0xC1759BEC#32)) shapeCasts_S_S1)) (Host.divf (sitofp .f32 (iotaInDim S511 32 0)) (broadcastInDim S511 ![] bcast_S_S511 (constant S_ .f32 0x43FF8000#32)))))⟩, ⟨S1, (broadcastInDim S1 ![] bcast_S_S1 (id (constant S_ .f32 0xC1759BEC#32)))⟩] concatenates_S511_S1_S512_d0

/-- The decay of every channel along the positions. -/
def DECAY : FVec Ideal S2048x512 .f32 :=
  Host.exp (mulf (broadcastInDim S2048x512 ![0, 1] bcast_S2048x1_S2048x512_0_1 (Host.negf (broadcastInDim S2048x1 ![0] bcast_S2048_S2048x1_0 STEPS))) (broadcastInDim S2048x512 ![0, 1] bcast_S1x512_S2048x512_0_1 (broadcastInDim S1x512 ![1] bcast_S512_S1x512_1 (Host.absf RATES))))

/-- The first hidden layer. -/
def HID1 (w1 : FVec Ideal S33x64 .f32) (b1 fr1 : FVec Ideal S64 .f32) : FVec Ideal S2048x64 .f32 :=
  Host.sin (mulf (broadcastInDim S2048x64 ![0, 1] bcast_S1x64_S2048x64_0_1 (broadcastInDim S1x64 ![1] bcast_S64_S1x64_1 fr1)) (addf (Host.dotGeneral dot_S2048x33_S33x64_S2048x64_1_0_0_1_n_n none EMB w1) (broadcastInDim S2048x64 ![0, 1] bcast_S1x64_S2048x64_0_1 (broadcastInDim S1x64 ![1] bcast_S64_S1x64_1 b1))))

/-- The second hidden layer of the first. -/
def HID2 (h : FVec Ideal S2048x64 .f32) (w2 : FVec Ideal S64x64 .f32) (b2 fr2 : FVec Ideal S64 .f32) : FVec Ideal S2048x64 .f32 :=
  Host.sin (mulf (broadcastInDim S2048x64 ![0, 1] bcast_S1x64_S2048x64_0_1 (broadcastInDim S1x64 ![1] bcast_S64_S1x64_1 fr2)) (addf (Host.dotGeneral dot_S2048x64_S64x64_S2048x64_1_0_0_1_n_n none h w2) (broadcastInDim S2048x64 ![0, 1] bcast_S1x64_S2048x64_0_1 (broadcastInDim S1x64 ![1] bcast_S64_S1x64_1 b2))))

/-- The filters of the second hidden layer. -/
def OUT (h : FVec Ideal S2048x64 .f32) (w3 : FVec Ideal S64x1024 .f32) (b3 : FVec Ideal S1024 .f32) : FVec Ideal S2048x1024 .f32 :=
  shapeCast _ (mulf (shapeCast _ (addf (Host.dotGeneral dot_S2048x64_S64x1024_S2048x1024_1_0_0_1_n_n none h w3) (broadcastInDim S2048x1024 ![0, 1] bcast_S1x1024_S2048x1024_0_1 (broadcastInDim S1x1024 ![1] bcast_S1024_S1x1024_1 b3))) shapeCasts_S2048x1024_S2048x2x512) (broadcastInDim S2048x2x512 ![0, 1, 2] bcast_S2048x1x512_S2048x2x512_0_1_2 (broadcastInDim S2048x1x512 ![0, 2] bcast_S2048x512_S2048x1x512_0_2 DECAY))) shapeCasts_S2048x2x512_S2048x1024

/-- The reference's result of its arguments. -/
theorem res_filter (m : (ℓ : Loc nD τ sig) → Buf (Elt Ideal) ℓ) (c : Dev nD) : Cert.Reference6Ideal.Value.res_main_v52 m c
    = OUT (HID2 (HID1 (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5))) (m ((c.tc : Thread nD τ).loc main_arg6)) (m ((c.tc : Thread nD τ).loc main_arg7)) := rfl

/-- The first hidden layer at an index. -/
theorem hid1_at (w1 : FVec Ideal S33x64 .f32) (b1 fr1 : FVec Ideal S64 .f32) (R : Fin 2048) (k : Fin 64) :
    HID1 w1 b1 fr1 (ix2 R k) = Ideal.sin (fr1 (ix1 k) * ((∑ i : Fin 33, EMB (ix2 R i) * w1 (ix2 i k)) + b1 (ix1 k))) := by
  unfold HID1
  generalize EMB = z
  pointwise

/-- The second hidden layer at an index. -/
theorem hid2_at (h : FVec Ideal S2048x64 .f32) (w2 : FVec Ideal S64x64 .f32) (b2 fr2 : FVec Ideal S64 .f32) (R : Fin 2048) (k : Fin 64) :
    HID2 h w2 b2 fr2 (ix2 R k) = Ideal.sin (fr2 (ix1 k) * ((∑ i : Fin 64, h (ix2 R i) * w2 (ix2 i k)) + b2 (ix1 k))) := by
  pointwise [HID2]

/-- The filters at an index. -/
theorem out_at (h : FVec Ideal S2048x64 .f32) (w3 : FVec Ideal S64x1024 .f32) (b3 : FVec Ideal S1024 .f32) (R : Fin 2048) (k : Fin 1024) :
    OUT h w3 b3 (ix2 R k) = ((∑ i : Fin 64, h (ix2 R i) * w3 (ix2 i k)) + b3 (ix1 k)) * DECAY (ix2 R ⟨k.val % 512, by omega⟩) := by
  unfold OUT
  generalize DECAY = d
  pointwise

end Cert.Reference6Ideal.Filter

namespace Cert.Kernel6Ideal.Filter

open Cert.Kernel6Ideal Cert.Kernel6Ideal.Gen Cert.Reference6Ideal.Filter

variable (m : (ℓ : Loc nD τ sig) → Buf (Elt Ideal) ℓ)

/-- What a point computes of its blocks, at an index. -/
theorem pay_at (f1 : FVec Ideal S1x128 .f32) (z : FVec Ideal S512x128 .f32) (w1 : FVec Ideal S128x128 .f32) (b1 f2 : FVec Ideal S1x128 .f32)
    (w2 : FVec Ideal S128x128 .f32) (b2 : FVec Ideal S1x128 .f32) (w3 : FVec Ideal S128x1024 .f32) (b3 : FVec Ideal S1x1024 .f32)
    (d : FVec Ideal S512x512 .f32) (r : Fin 512) (k : Fin 1024) :
    k0_pay1 (F := Ideal) (k0_pay2 f1 z w1 b1 f2 w2 b2 w3 b3) (k0_pay3 d) (ix2 r k)
      = ((∑ j : Fin 128, Ideal.sin (f2 (ix2 0 j) * ((∑ i : Fin 128, Ideal.sin (f1 (ix2 0 i) * ((∑ e : Fin 128, z (ix2 r e) * w1 (ix2 e i)) + b1 (ix2 0 i)))
          * w2 (ix2 i j)) + b2 (ix2 0 j))) * w3 (ix2 j k)) + b3 (ix2 0 k)) * d (ix2 r ⟨k.val % 512, by omega⟩) := by
  have hk := k.isLt
  pointwise [k0_pay1, k0_pay2, k0_pay3]
  refine congrArg₂ (· * ·) rfl ?_
  split_ifs <;> (refine congrArg d (congrArg (fun a : Fin 512 => ix2 r a) (Fin.ext ?_)); dsimp only; omega)

/-- A sum whose terms past the first `n` are zero. -/
theorem sum_front {N : ℕ} (n : ℕ) (hn : n ≤ N) (f : Fin N → EReal) (h : ∀ i : Fin N, n ≤ i.val → f i = 0) :
    ∑ i, f i = ∑ i : Fin n, f ⟨i.val, by omega⟩ := by
  obtain ⟨k, rfl⟩ := Nat.exists_eq_add_of_le hn
  rw [Fin.sum_univ_add, Finset.sum_eq_zero (s := Finset.univ) (f := fun i : Fin k => f (Fin.natAdd n i)) (fun i _ => h _ (by simp)), add_zero]
  rfl

/-- The zero that pads. -/
theorem pad_zero : (FloatOps.sitofp (F := Ideal) .f32 (0#32 : BitVec 32) : EReal) = 0 := by simp [FloatOps.sitofp]

/-- The host's operations before the call, in order. -/
abbrev HOST : List (HloOp τ sig (Elt Ideal)) :=
  List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22]

/-- The joined columns of equal parts. -/
theorem joined (a a' : FVec Ideal S2048x1 .f32) (b b' d d' : FVec Ideal S2048x16 .f32) (ha : a = a') (hb : b = b') (hd : d = d') :
    concatenate S2048x33 1 [⟨S2048x1, a⟩, ⟨S2048x16, b⟩, ⟨S2048x16, d⟩] concatenates_S2048x1_S2048x16_S2048x16_S2048x33_d1
      = concatenate S2048x33 1 [⟨S2048x1, a'⟩, ⟨S2048x16, b'⟩, ⟨S2048x16, d'⟩] concatenates_S2048x1_S2048x16_S2048x16_S2048x33_d1 := by
  rw [ha, hb, hd]

set_option maxHeartbeats 4000000 in
/-- The array of the embedding: padded by zero columns. -/
theorem entry0 (c : Dev nD) : V m c (Pipeline.arrRef spec0 0)
    = (pad S2048x128 ![0, 0] ![0, 95] ![0, 0] EMB (sitofp .f32 (constantI S_ 32 0#32)) pads_S2048x33_S2048x128_000_0950 h_S_ : FVec Ideal S2048x128 .f32) := by
  change StableHlo.after HOST (fun b => m (c, b)) (Proc.devRef .tc main_v28) = _
  after_reads_simp
  refine congrArg (fun w : FVec Ideal S2048x33 .f32 => (pad S2048x128 ![0, 0] ![0, 95] ![0, 0] w (sitofp .f32 (constantI S_ 32 0#32)) pads_S2048x33_S2048x128_000_0950 h_S_ : FVec Ideal S2048x128 .f32)) ?_
  unfold EMB
  refine joined _ _ _ _ _ _ ?_ ?_ ?_
  · dsimp only [Matrix.cons_val]
    after_reads_simp
    rfl
  · dsimp only [Matrix.cons_val]
    after_reads_simp
    rfl
  · dsimp only [Matrix.cons_val]
    after_reads_simp
    rfl

/-- The array of the first weights: padded by zeros. -/
theorem entry1 (c : Dev nD) : V m c (Pipeline.arrRef spec0 1)
    = (pad S128x128 ![0, 0] ![95, 64] ![0, 0] (m ((c : Thread nD τ).loc main_arg0) : FVec Ideal S33x64 .f32) (sitofp .f32 (constantI S_ 32 0#32)) pads_S33x64_S128x128_0950_0640 h_S_ : FVec Ideal S128x128 .f32) := by
  change StableHlo.after HOST (fun b => m (c, b)) (Proc.devRef .tc main_v29) = _
  after_reads_simp
  rfl

/-- The array of the first bias: padded by zeros. -/
theorem entry2 (c : Dev nD) : V m c (Pipeline.arrRef spec0 2)
    = (pad S1x128 ![0, 0] ![0, 64] ![0, 0] (broadcastInDim S1x64 ![1] bcast_S64_S1x64_1 (m ((c : Thread nD τ).loc main_arg1) : FVec Ideal S64 .f32)) (sitofp .f32 (constantI S_ 32 0#32)) pads_S1x64_S1x128_000_0640 h_S_ : FVec Ideal S1x128 .f32) := by
  change StableHlo.after HOST (fun b => m (c, b)) (Proc.devRef .tc main_v31) = _
  after_reads_simp
  rfl

/-- The array of the first frequencies: padded by zeros. -/
theorem entry3 (c : Dev nD) : V m c (Pipeline.arrRef spec0 3)
    = (pad S1x128 ![0, 0] ![0, 64] ![0, 0] (broadcastInDim S1x64 ![1] bcast_S64_S1x64_1 (m ((c : Thread nD τ).loc main_arg2) : FVec Ideal S64 .f32)) (sitofp .f32 (constantI S_ 32 0#32)) pads_S1x64_S1x128_000_0640 h_S_ : FVec Ideal S1x128 .f32) := by
  change StableHlo.after HOST (fun b => m (c, b)) (Proc.devRef .tc main_v33) = _
  after_reads_simp
  rfl

/-- The array of the second bias: padded by zeros. -/
theorem entry5 (c : Dev nD) : V m c (Pipeline.arrRef spec0 5)
    = (pad S1x128 ![0, 0] ![0, 64] ![0, 0] (broadcastInDim S1x64 ![1] bcast_S64_S1x64_1 (m ((c : Thread nD τ).loc main_arg4) : FVec Ideal S64 .f32)) (sitofp .f32 (constantI S_ 32 0#32)) pads_S1x64_S1x128_000_0640 h_S_ : FVec Ideal S1x128 .f32) := by
  change StableHlo.after HOST (fun b => m (c, b)) (Proc.devRef .tc main_v36) = _
  after_reads_simp
  rfl

/-- The array of the second frequencies: padded by zeros. -/
theorem entry6 (c : Dev nD) : V m c (Pipeline.arrRef spec0 6)
    = (pad S1x128 ![0, 0] ![0, 64] ![0, 0] (broadcastInDim S1x64 ![1] bcast_S64_S1x64_1 (m ((c : Thread nD τ).loc main_arg5) : FVec Ideal S64 .f32)) (sitofp .f32 (constantI S_ 32 0#32)) pads_S1x64_S1x128_000_0640 h_S_ : FVec Ideal S1x128 .f32) := by
  change StableHlo.after HOST (fun b => m (c, b)) (Proc.devRef .tc main_v38) = _
  after_reads_simp
  rfl

/-- The array of the second weights: padded by zeros. -/
theorem entry4 (c : Dev nD) : V m c (Pipeline.arrRef spec0 4)
    = (pad S128x128 ![0, 0] ![64, 64] ![0, 0] (m ((c : Thread nD τ).loc main_arg3) : FVec Ideal S64x64 .f32) (sitofp .f32 (constantI S_ 32 0#32)) pads_S64x64_S128x128_0640_0640 h_S_ : FVec Ideal S128x128 .f32) := by
  change StableHlo.after HOST (fun b => m (c, b)) (Proc.devRef .tc main_v34) = _
  after_reads_simp
  rfl

/-- The array of the last weights: padded by zero rows. -/
theorem entry7 (c : Dev nD) : V m c (Pipeline.arrRef spec0 7)
    = (pad S128x1024 ![0, 0] ![64, 0] ![0, 0] (m ((c : Thread nD τ).loc main_arg6) : FVec Ideal S64x1024 .f32) (sitofp .f32 (constantI S_ 32 0#32)) pads_S64x1024_S128x1024_0640_000 h_S_ : FVec Ideal S128x1024 .f32) := by
  change StableHlo.after HOST (fun b => m (c, b)) (Proc.devRef .tc main_v39) = _
  after_reads_simp
  rfl

/-- The array of the last bias: one row. -/
theorem entry8 (c : Dev nD) : V m c (Pipeline.arrRef spec0 8)
    = (broadcastInDim S1x1024 ![1] bcast_S1024_S1x1024_1 (m ((c : Thread nD τ).loc main_arg7) : FVec Ideal S1024 .f32) : FVec Ideal S1x1024 .f32) := by
  change StableHlo.after HOST (fun b => m (c, b)) (Proc.devRef .tc main_v40) = _
  after_reads_simp

/-- The array of the decay. -/
theorem entry9 (c : Dev nD) : V m c (Pipeline.arrRef spec0 9)
    = (DECAY : FVec Ideal S2048x512 .f32) := by
  change StableHlo.after HOST (fun b => m (c, b)) (Proc.devRef .tc main_v27) = _
  after_reads_simp
  rfl

/-- The block that every window takes at a grid point: block `t` of the positions, and the whole of the weights. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0] :=
  (by decide +kernel : ∀ t : Fin grid0.N, _)

/-- Position `r` of block `t`. -/
abbrev pos (t : Fin cfg0.N) (r : Fin 512) : Fin 2048 := ⟨t.val * 512 + r.val, by have h : t.val < 4 := t.isLt; omega⟩

end Cert.Kernel6Ideal.Filter
-- ==== Proof.Filter.lean ====
module

public import proofs.«01_k».proof.Proof.FilterHost

/-!
The network of the long filters. Each grid point does it for 512 positions, with the embedding and the weights padded by zeros
to 128 columns and rows: what is added meets a zero in every sum.
-/

@[expose] public section

set_option maxRecDepth 65536

noncomputable section

open Idealize.ShloMosaic Idealize.ShloMosaic.TcCoe Idealize.SL.Sem
open Idealize.ShloMosaic.Pipeline (Dat)

namespace Cert.Kernel6Ideal.Filter

open Cert.Kernel6Ideal Cert.Kernel6Ideal.Gen Cert.Reference6Ideal.Filter

variable (m : (ℓ : Loc nD τ sig) → Buf (Elt Ideal) ℓ)

/-- The blocks of a grid point's inputs. -/
abbrev BLK0 (c : Dev nD) (t : Fin cfg0.N) : FVec Ideal S512x128 .f32 := iblk m c 0 t
@[inherit_doc BLK0] abbrev BLK1 (c : Dev nD) (t : Fin cfg0.N) : FVec Ideal S128x128 .f32 := iblk m c 1 t
@[inherit_doc BLK0] abbrev BLK2 (c : Dev nD) (t : Fin cfg0.N) : FVec Ideal S1x128 .f32 := iblk m c 2 t
@[inherit_doc BLK0] abbrev BLK3 (c : Dev nD) (t : Fin cfg0.N) : FVec Ideal S1x128 .f32 := iblk m c 3 t
@[inherit_doc BLK0] abbrev BLK4 (c : Dev nD) (t : Fin cfg0.N) : FVec Ideal S128x128 .f32 := iblk m c 4 t
@[inherit_doc BLK0] abbrev BLK5 (c : Dev nD) (t : Fin cfg0.N) : FVec Ideal S1x128 .f32 := iblk m c 5 t
@[inherit_doc BLK0] abbrev BLK6 (c : Dev nD) (t : Fin cfg0.N) : FVec Ideal S1x128 .f32 := iblk m c 6 t
@[inherit_doc BLK0] abbrev BLK7 (c : Dev nD) (t : Fin cfg0.N) : FVec Ideal S128x1024 .f32 := iblk m c 7 t
@[inherit_doc BLK0] abbrev BLK8 (c : Dev nD) (t : Fin cfg0.N) : FVec Ideal S1x1024 .f32 := iblk m c 8 t
@[inherit_doc BLK0] abbrev BLK9 (c : Dev nD) (t : Fin cfg0.N) : FVec Ideal S512x512 .f32 := iblk m c 9 t

set_option maxHeartbeats 4000000 in
/-- The block of the embedding inside of its columns. -/
theorem z_in (c : Dev nD) (t : Fin cfg0.N) (r : Fin 512) (e : Fin 128) (he : e.val < 33) :
    BLK0 m c t (ix2 r e) = EMB (ix2 (pos t r) ⟨e.val, he⟩) := by
  show iblk m c 0 t _ = _
  unfold iblk
  rw [entry0]
  generalize EMB = w
  blk_simp [idx t]
  pointwise
  blk_simp [idx t]
  rw [dif_pos he]
  blk_ext [idx t]

set_option maxHeartbeats 4000000 in
/-- The first weights inside of their rows and columns. -/
theorem w1_in (c : Dev nD) (t : Fin cfg0.N) (e i : Fin 128) (he : e.val < 33) (hi : i.val < 64) :
    BLK1 m c t (ix2 e i) = (m ((c : Thread nD τ).loc main_arg0) : FVec Ideal S33x64 .f32) (ix2 ⟨e.val, he⟩ ⟨i.val, hi⟩) := by
  show iblk m c 1 t _ = _
  unfold iblk
  rw [entry1]
  generalize (m ((c : Thread nD τ).loc main_arg0)) = w
  blk_simp [idx t]
  pointwise
  blk_simp [idx t]
  refine (dif_pos fun a => ?_).trans ?_
  · fin_cases a
    · show 0 ≤ 0 * 128 + e.val ∧ (0 * 128 + e.val - 0) % (0 + 1) = 0 ∧ (0 * 128 + e.val - 0) / (0 + 1) < 33
      omega
    · show 0 ≤ 0 * 128 + i.val ∧ (0 * 128 + i.val - 0) % (0 + 1) = 0 ∧ (0 * 128 + i.val - 0) / (0 + 1) < 64
      omega
  · blk_ext [idx t]

set_option maxHeartbeats 4000000 in
/-- The first weights past their rows. -/
theorem w1_out (c : Dev nD) (t : Fin cfg0.N) (e i : Fin 128) (he : 33 ≤ e.val) :
    BLK1 m c t (ix2 e i) = (0 : EReal) := by
  show iblk m c 1 t _ = _
  unfold iblk
  rw [entry1]
  generalize (m ((c : Thread nD τ).loc main_arg0)) = w
  blk_simp [idx t]
  pointwise
  blk_simp [idx t]
  refine (dif_neg fun h => ?_).trans pad_zero
  have h0 : _ ∧ _ ∧ (0 * 128 + e.val - 0) / (0 + 1) < 33 := h 0
  omega

set_option maxHeartbeats 4000000 in
/-- The first bias inside of its columns. -/
theorem b1_in (c : Dev nD) (t : Fin cfg0.N) (i : Fin 128) (hi : i.val < 64) :
    BLK2 m c t (ix2 0 i) = (m ((c : Thread nD τ).loc main_arg1) : FVec Ideal S64 .f32) (ix1 ⟨i.val, hi⟩) := by
  show iblk m c 2 t _ = _
  unfold iblk
  rw [entry2]
  generalize (m ((c : Thread nD τ).loc main_arg1)) = w
  blk_simp [idx t]
  pointwise
  blk_simp [idx t]
  rw [dif_pos hi]

set_option maxHeartbeats 4000000 in
/-- The first frequencies inside of their columns. -/
theorem f1_in (c : Dev nD) (t : Fin cfg0.N) (i : Fin 128) (hi : i.val < 64) :
    BLK3 m c t (ix2 0 i) = (m ((c : Thread nD τ).loc main_arg2) : FVec Ideal S64 .f32) (ix1 ⟨i.val, hi⟩) := by
  show iblk m c 3 t _ = _
  unfold iblk
  rw [entry3]
  generalize (m ((c : Thread nD τ).loc main_arg2)) = w
  blk_simp [idx t]
  pointwise
  blk_simp [idx t]
  rw [dif_pos hi]

set_option maxHeartbeats 4000000 in
/-- The second bias inside of its columns. -/
theorem b2_in (c : Dev nD) (t : Fin cfg0.N) (i : Fin 128) (hi : i.val < 64) :
    BLK5 m c t (ix2 0 i) = (m ((c : Thread nD τ).loc main_arg4) : FVec Ideal S64 .f32) (ix1 ⟨i.val, hi⟩) := by
  show iblk m c 5 t _ = _
  unfold iblk
  rw [entry5]
  generalize (m ((c : Thread nD τ).loc main_arg4)) = w
  blk_simp [idx t]
  pointwise
  blk_simp [idx t]
  rw [dif_pos hi]

set_option maxHeartbeats 4000000 in
/-- The second frequencies inside of their columns. -/
theorem f2_in (c : Dev nD) (t : Fin cfg0.N) (i : Fin 128) (hi : i.val < 64) :
    BLK6 m c t (ix2 0 i) = (m ((c : Thread nD τ).loc main_arg5) : FVec Ideal S64 .f32) (ix1 ⟨i.val, hi⟩) := by
  show iblk m c 6 t _ = _
  unfold iblk
  rw [entry6]
  generalize (m ((c : Thread nD τ).loc main_arg5)) = w
  blk_simp [idx t]
  pointwise
  blk_simp [idx t]
  rw [dif_pos hi]

set_option maxHeartbeats 4000000 in
/-- The second weights inside of their rows and columns. -/
theorem w2_in (c : Dev nD) (t : Fin cfg0.N) (i j : Fin 128) (hi : i.val < 64) (hj : j.val < 64) :
    BLK4 m c t (ix2 i j) = (m ((c : Thread nD τ).loc main_arg3) : FVec Ideal S64x64 .f32) (ix2 ⟨i.val, hi⟩ ⟨j.val, hj⟩) := by
  show iblk m c 4 t _ = _
  unfold iblk
  rw [entry4]
  generalize (m ((c : Thread nD τ).loc main_arg3)) = w
  blk_simp [idx t]
  pointwise
  blk_simp [idx t]
  refine (dif_pos fun a => ?_).trans ?_
  · fin_cases a
    · show 0 ≤ 0 * 128 + i.val ∧ (0 * 128 + i.val - 0) % (0 + 1) = 0 ∧ (0 * 128 + i.val - 0) / (0 + 1) < 64
      omega
    · show 0 ≤ 0 * 128 + j.val ∧ (0 * 128 + j.val - 0) % (0 + 1) = 0 ∧ (0 * 128 + j.val - 0) / (0 + 1) < 64
      omega
  · blk_ext [idx t]

set_option maxHeartbeats 4000000 in
/-- The second weights past their rows. -/
theorem w2_out (c : Dev nD) (t : Fin cfg0.N) (i j : Fin 128) (hi : 64 ≤ i.val) :
    BLK4 m c t (ix2 i j) = (0 : EReal) := by
  show iblk m c 4 t _ = _
  unfold iblk
  rw [entry4]
  generalize (m ((c : Thread nD τ).loc main_arg3)) = w
  blk_simp [idx t]
  pointwise
  blk_simp [idx t]
  refine (dif_neg fun h => ?_).trans pad_zero
  have h0 : _ ∧ _ ∧ (0 * 128 + i.val - 0) / (0 + 1) < 64 := h 0
  omega

set_option maxHeartbeats 4000000 in
/-- The last weights inside of their rows. -/
theorem w3_in (c : Dev nD) (t : Fin cfg0.N) (j : Fin 128) (k : Fin 1024) (hj : j.val < 64) :
    BLK7 m c t (ix2 j k) = (m ((c : Thread nD τ).loc main_arg6) : FVec Ideal S64x1024 .f32) (ix2 ⟨j.val, hj⟩ k) := by
  show iblk m c 7 t _ = _
  unfold iblk
  rw [entry7]
  generalize (m ((c : Thread nD τ).loc main_arg6)) = w
  blk_simp [idx t]
  pointwise
  blk_simp [idx t]
  refine (dif_pos fun a => ?_).trans ?_
  · fin_cases a
    · show 0 ≤ 0 * 128 + j.val ∧ (0 * 128 + j.val - 0) % (0 + 1) = 0 ∧ (0 * 128 + j.val - 0) / (0 + 1) < 64
      omega
    · have := k.isLt
      show 0 ≤ 0 * 1024 + k.val ∧ (0 * 1024 + k.val - 0) % (0 + 1) = 0 ∧ (0 * 1024 + k.val - 0) / (0 + 1) < 1024
      omega
  · blk_ext [idx t]

set_option maxHeartbeats 4000000 in
/-- The last weights past their rows. -/
theorem w3_out (c : Dev nD) (t : Fin cfg0.N) (j : Fin 128) (k : Fin 1024) (hj : 64 ≤ j.val) :
    BLK7 m c t (ix2 j k) = (0 : EReal) := by
  show iblk m c 7 t _ = _
  unfold iblk
  rw [entry7]
  generalize (m ((c : Thread nD τ).loc main_arg6)) = w
  blk_simp [idx t]
  pointwise
  blk_simp [idx t]
  refine (dif_neg fun h => ?_).trans pad_zero
  have h0 : _ ∧ _ ∧ (0 * 128 + j.val - 0) / (0 + 1) < 64 := h 0
  omega

set_option maxHeartbeats 4000000 in
/-- The last bias. -/
theorem b3_at (c : Dev nD) (t : Fin cfg0.N) (k : Fin 1024) :
    BLK8 m c t (ix2 0 k) = (m ((c : Thread nD τ).loc main_arg7) : FVec Ideal S1024 .f32) (ix1 k) := by
  show iblk m c 8 t _ = _
  unfold iblk
  rw [entry8]
  generalize (m ((c : Thread nD τ).loc main_arg7)) = w
  blk_simp [idx t]
  pointwise
  blk_simp [idx t]
  blk_ext [idx t]

set_option maxHeartbeats 4000000 in
/-- The block of the decay. -/
theorem d_at (c : Dev nD) (t : Fin cfg0.N) (r : Fin 512) (k : Fin 512) : BLK9 m c t (ix2 r k) = DECAY (ix2 (pos t r) k) := by
  show iblk m c 9 t _ = _
  unfold iblk
  rw [entry9]
  generalize DECAY = w
  blk_simp [idx t]
  blk_ext [idx t]

/-- The hidden layers and the filters of this program's arguments. -/
abbrev H1 (c : Dev nD) : FVec Ideal Cert.Reference6Ideal.S2048x64 .f32 :=
  HID1 (m ((c : Thread nD τ).loc main_arg0)) (m ((c : Thread nD τ).loc main_arg1)) (m ((c : Thread nD τ).loc main_arg2))
@[inherit_doc H1] abbrev H2 (c : Dev nD) : FVec Ideal Cert.Reference6Ideal.S2048x64 .f32 :=
  HID2 (H1 m c) (m ((c : Thread nD τ).loc main_arg3)) (m ((c : Thread nD τ).loc main_arg4)) (m ((c : Thread nD τ).loc main_arg5))
@[inherit_doc H1] abbrev FILTERS (c : Dev nD) : FVec Ideal Cert.Reference6Ideal.S2048x1024 .f32 :=
  OUT (H2 m c) (m ((c : Thread nD τ).loc main_arg6)) (m ((c : Thread nD τ).loc main_arg7))

/-- What a point computes of the first hidden layer, inside of its columns. -/
theorem layer1 (c : Dev nD) (t : Fin cfg0.N) (r : Fin 512) (i : Fin 128) (hi : i.val < 64) :
    Ideal.sin (BLK3 m c t (ix2 0 i) * ((∑ e : Fin 128, BLK0 m c t (ix2 r e) * BLK1 m c t (ix2 e i)) + BLK2 m c t (ix2 0 i)))
      = H1 m c (ix2 (pos t r) ⟨i.val, hi⟩) := by
  unfold H1
  rw [hid1_at, f1_in m c t i hi, b1_in m c t i hi,
    sum_front 33 (by omega) _ (fun e he => by rw [w1_out m c t e i he]; exact mul_zero _)]
  refine congrArg Ideal.sin (congrArg₂ (· * ·) rfl (congrArg₂ (· + ·) (Finset.sum_congr rfl fun e _ => ?_) rfl))
  rw [z_in m c t r ⟨e.val, by omega⟩ e.isLt, w1_in m c t ⟨e.val, by omega⟩ i e.isLt hi]

/-- What a point computes of the second hidden layer, inside of its columns. -/
theorem layer2 (c : Dev nD) (t : Fin cfg0.N) (r : Fin 512) (j : Fin 128) (hj : j.val < 64) :
    Ideal.sin (BLK6 m c t (ix2 0 j) * ((∑ i : Fin 128, Ideal.sin (BLK3 m c t (ix2 0 i) * ((∑ e : Fin 128, BLK0 m c t (ix2 r e)
      * BLK1 m c t (ix2 e i)) + BLK2 m c t (ix2 0 i))) * BLK4 m c t (ix2 i j)) + BLK5 m c t (ix2 0 j)))
      = H2 m c (ix2 (pos t r) ⟨j.val, hj⟩) := by
  unfold H2
  rw [hid2_at, f2_in m c t j hj, b2_in m c t j hj,
    sum_front 64 (by omega) _ (fun i hi => by rw [w2_out m c t i j hi]; exact mul_zero _)]
  refine congrArg Ideal.sin (congrArg₂ (· * ·) rfl (congrArg₂ (· + ·) (Finset.sum_congr rfl fun i _ => ?_) rfl))
  rw [layer1 m c t r ⟨i.val, by omega⟩ i.isLt, w2_in m c t ⟨i.val, by omega⟩ j i.isLt hj]

/-- What a point computes, at a block index: the reference's filter at the array index. -/
theorem point (c : Dev nD) (t : Fin cfg0.N) (r : Fin 512) (k : Fin 1024) :
    k0_pay1 (F := Ideal) (k0_pay2 (BLK3 m c t) (BLK0 m c t) (BLK1 m c t) (BLK2 m c t) (BLK6 m c t) (BLK4 m c t)
      (BLK5 m c t) (BLK7 m c t) (BLK8 m c t)) (k0_pay3 (BLK9 m c t)) (ix2 r k) = FILTERS m c (ix2 (pos t r) k) := by
  unfold FILTERS
  rw [pay_at, out_at, d_at, b3_at,
    sum_front 64 (by omega) _ (fun j hj => by rw [w3_out m c t j k hj]; exact mul_zero _)]
  refine congrArg₂ (· * ·) (congrArg₂ (· + ·) (Finset.sum_congr rfl fun j _ => ?_) rfl) rfl
  rw [layer2 m c t r ⟨j.val, by omega⟩ j.isLt, w3_in m c t ⟨j.val, by omega⟩ k j.isLt]

/-- After the run the result is the reference's filters. -/
theorem final (c : Dev nD) : (dats m 0 c).arrAt 10 (cfgs 0).N = FILTERS m c := by
  refine (dats m 0 c).arrAt_eq_of_covers 10 _ (by decide +kernel) fun t _ y => ?_
  blk_simp
  rw [after0_10]
  frame_out
  idx_vars y
  refine (point m c t _ _).trans ?_
  generalize FILTERS m c = w
  blk_ext [idx t]

end Cert.Kernel6Ideal.Filter
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Merge
public import proofs.«01_k».proof.Proof.Final
public import proofs.«01_k».proof.Proof.InProj
public import proofs.«01_k».proof.Proof.Attn
public import proofs.«01_k».proof.Proof.AttnPre
public import proofs.«01_k».proof.Proof.Hyena
public import proofs.«01_k».proof.Proof.Filter
public import Idealize.ShloMosaic.Lib.Claim

/-!
The claim. Each of the six calls and each of its references runs, leaves its arguments as they were and every
counter at zero, and the values of each call are its reference's over the extended reals.
-/

@[expose] public section

set_option maxRecDepth 16384

noncomputable section

open Idealize.ShloMosaic Idealize.ShloMosaic.TcCoe Idealize.SL.Sem

namespace Cert.Proof

/-- The attention's reference runs, leaves its arguments as they were and every counter at zero. -/
theorem frame_reference : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- The input projection's reference runs, leaves its arguments as they were and every counter at zero. -/
theorem frame_reference2 : Cert.quiescent_Reference2Ideal := fun m g _ =>
  (θ_run Cert.Reference2Ideal.defs _ _).mono
    (fun r h => ⟨fun c => (h c).2, sem_eq_zero_of_no_sems (by decide) r.2⟩) (Cert.Reference2Ideal.Value.run m g)

/-- The merge's reference runs, leaves its arguments as they were and every counter at zero. -/
theorem frame_reference3 : Cert.quiescent_Reference3Ideal := fun m g _ =>
  (θ_run Cert.Reference3Ideal.defs _ _).mono
    (fun r h => ⟨fun c => (h c).2.2.2, sem_eq_zero_of_no_sems (by decide) r.2⟩) (Cert.Reference3Ideal.Value.run m g)

/-- The closing norm's reference runs, leaves its arguments as they were and every counter at zero. -/
theorem frame_reference4 : Cert.quiescent_Reference4Ideal := fun m g _ =>
  (θ_run Cert.Reference4Ideal.defs _ _).mono
    (fun r h => ⟨fun c => (h c).2, sem_eq_zero_of_no_sems (by decide) r.2⟩) (Cert.Reference4Ideal.Value.run m g)

/-- The short convolution's reference runs, leaves its arguments as they were and every counter at zero. -/
theorem frame_reference5 : Cert.quiescent_Reference5Ideal := fun m g _ =>
  (θ_run Cert.Reference5Ideal.defs _ _).mono
    (fun r h => ⟨fun c => (h c).2.2.2, sem_eq_zero_of_no_sems (by decide) r.2⟩) (Cert.Reference5Ideal.Value.run m g)

/-- The filters' reference runs, leaves its arguments as they were and every counter at zero. -/
theorem frame_reference6 : Cert.quiescent_Reference6Ideal := fun m g _ =>
  (θ_run Cert.Reference6Ideal.defs _ _).mono
    (fun r h => ⟨fun c => (h c).2, sem_eq_zero_of_no_sems (by decide) r.2⟩) (Cert.Reference6Ideal.Value.run m g)

set_option maxHeartbeats 4000000 in
/-- The input projection's result is its reference's. -/
theorem in_proj : Cert.algebraic_Kernel2Ideal_Reference2Ideal := by
  pair_intro
  · run_from Cert.Kernel2Ideal.Gen.run_main m g
  · refine (θ_run Cert.Reference2Ideal.defs _ _).mono (fun r h c => ?_) (Cert.Reference2Ideal.Value.run m' g')
    refine ⟨(h c).1.trans ?_, (h c).2⟩
    refine (Cert.Reference2Ideal.InProj.res_join m' c).trans ?_
    rw [(hagree c).1, (hagree c).2.1, (hagree c).2.2.1, (hagree c).2.2.2]
    exact (Cert.Kernel2Ideal.InProj.final m c).symm

set_option maxHeartbeats 4000000 in
/-- The merge's three results are its reference's. -/
theorem merge : Cert.algebraic_Kernel3Ideal_Reference3Ideal := by
  pair_intro
  · run_from Cert.Kernel3Ideal.Gen.run_main m g
  · refine (θ_run Cert.Reference3Ideal.defs _ _).mono (fun r h c => ?_) (Cert.Reference3Ideal.Value.run m' g')
    have e : Cert.Reference3Ideal.Merge.H (m' ((c.tc : Thread Cert.Reference3Ideal.nD Cert.Reference3Ideal.τ).loc Cert.Reference3Ideal.main_arg0))
          (m' ((c.tc : Thread Cert.Reference3Ideal.nD Cert.Reference3Ideal.τ).loc Cert.Reference3Ideal.main_arg1))
          (m' ((c.tc : Thread Cert.Reference3Ideal.nD Cert.Reference3Ideal.τ).loc Cert.Reference3Ideal.main_arg2))
          (m' ((c.tc : Thread Cert.Reference3Ideal.nD Cert.Reference3Ideal.τ).loc Cert.Reference3Ideal.main_arg3))
          (m' ((c.tc : Thread Cert.Reference3Ideal.nD Cert.Reference3Ideal.τ).loc Cert.Reference3Ideal.main_arg4))
          (m' ((c.tc : Thread Cert.Reference3Ideal.nD Cert.Reference3Ideal.τ).loc Cert.Reference3Ideal.main_arg5))
          (m' ((c.tc : Thread Cert.Reference3Ideal.nD Cert.Reference3Ideal.τ).loc Cert.Reference3Ideal.main_arg6))
          (m' ((c.tc : Thread Cert.Reference3Ideal.nD Cert.Reference3Ideal.τ).loc Cert.Reference3Ideal.main_arg7))
          (m' ((c.tc : Thread Cert.Reference3Ideal.nD Cert.Reference3Ideal.τ).loc Cert.Reference3Ideal.main_arg8))
          (m' ((c.tc : Thread Cert.Reference3Ideal.nD Cert.Reference3Ideal.τ).loc Cert.Reference3Ideal.main_arg9))
        = Cert.Kernel3Ideal.Merge.HK m c := by
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1]
    refine ⟨(h c).1.trans (Eq.trans e (Cert.Kernel3Ideal.Merge.final12 m c).symm), (h c).2.1.trans ?_, (h c).2.2.1.trans ?_,
      (h c).2.2.2⟩
    · refine (Cert.Reference3Ideal.Merge.res_norm m' c).trans ?_
      rw [e, (hagree c).2.2.2.2.2.2.2.2.2.2.1]
      exact (Cert.Kernel3Ideal.Merge.final13 m c).symm
    · refine (Cert.Reference3Ideal.Merge.res_query m' c).trans ?_
      rw [e, (hagree c).2.2.2.2.2.2.2.2.2.2.1, (hagree c).2.2.2.2.2.2.2.2.2.2.2]
      exact (Cert.Kernel3Ideal.Merge.final14 m c).symm

/-- The closing norm's result is its reference's. -/
theorem final_norm : Cert.algebraic_Kernel4Ideal_Reference4Ideal := by
  pair_intro
  · run_from Cert.Kernel4Ideal.Gen.run_main m g
  · run_from Cert.Reference4Ideal.Value.run m' g'
    exact (Cert.Kernel4Ideal.Final.final m c).symm

set_option maxHeartbeats 4000000 in
/-- The attention's result is its reference's, of queries, keys and sinks that are real. -/
theorem attention : Cert.algebraic_KernelIdeal_ReferenceIdeal_pre_finite (hPre_finite := Cert.Pre_finite.facts) := by
  haveI := Cert.Pre_finite.facts
  pair_intro
  · run_from Cert.KernelIdeal.Gen.run_main m g
  · refine (θ_run Cert.ReferenceIdeal.defs _ _).mono (fun r h c => ?_) (Cert.ReferenceIdeal.Value.run m' g')
    refine ⟨(h c).1.trans ?_, (h c).2⟩
    refine (Cert.ReferenceIdeal.Attn.res_attn m' c).trans ?_
    rw [(hagree c).1, (hagree c).2.1, (hagree c).2.2.1, (hagree c).2.2.2]
    obtain ⟨hq, hk, hs⟩ := Cert.Pre_finite.real _ _ _ _ (hpre c)
    exact (Cert.KernelIdeal.Attn.final m c ⟨hq, hk, hs⟩).symm

set_option maxHeartbeats 4000000 in
/-- The short convolution's three results are its reference's. -/
theorem hyena : Cert.algebraic_Kernel5Ideal_Reference5Ideal := by
  pair_intro
  · run_from Cert.Kernel5Ideal.Gen.run_main m g
  · refine (θ_run Cert.Reference5Ideal.defs _ _).mono (fun r h c => ?_) (Cert.Reference5Ideal.Value.run m' g')
    refine ⟨(h c).1.trans ?_, (h c).2.1.trans ?_, (h c).2.2.1.trans ?_, (h c).2.2.2⟩
    · show Cert.Reference5Ideal.Hyena.FIRST (m' ((c.tc : Thread Cert.Reference5Ideal.nD Cert.Reference5Ideal.τ).loc Cert.Reference5Ideal.main_arg0))
          (m' ((c.tc : Thread Cert.Reference5Ideal.nD Cert.Reference5Ideal.τ).loc Cert.Reference5Ideal.main_arg1))
          (m' ((c.tc : Thread Cert.Reference5Ideal.nD Cert.Reference5Ideal.τ).loc Cert.Reference5Ideal.main_arg2)) = _
      rw [(hagree c).1, (hagree c).2.1, (hagree c).2.2]
      exact (Cert.Kernel5Ideal.Hyena.final9 m c).symm
    · show Cert.Reference5Ideal.Hyena.GATED (m' ((c.tc : Thread Cert.Reference5Ideal.nD Cert.Reference5Ideal.τ).loc Cert.Reference5Ideal.main_arg0))
          (m' ((c.tc : Thread Cert.Reference5Ideal.nD Cert.Reference5Ideal.τ).loc Cert.Reference5Ideal.main_arg1))
          (m' ((c.tc : Thread Cert.Reference5Ideal.nD Cert.Reference5Ideal.τ).loc Cert.Reference5Ideal.main_arg2)) = _
      rw [(hagree c).1, (hagree c).2.1, (hagree c).2.2]
      exact (Cert.Kernel5Ideal.Hyena.final10 m c).symm
    · show Cert.Reference5Ideal.Hyena.ROUNDED (m' ((c.tc : Thread Cert.Reference5Ideal.nD Cert.Reference5Ideal.τ).loc Cert.Reference5Ideal.main_arg0))
          (m' ((c.tc : Thread Cert.Reference5Ideal.nD Cert.Reference5Ideal.τ).loc Cert.Reference5Ideal.main_arg1))
          (m' ((c.tc : Thread Cert.Reference5Ideal.nD Cert.Reference5Ideal.τ).loc Cert.Reference5Ideal.main_arg2)) = _
      rw [(hagree c).1, (hagree c).2.1, (hagree c).2.2]
      exact (Cert.Kernel5Ideal.Hyena.final11 m c).symm

set_option maxHeartbeats 4000000 in
/-- The filters are their reference's. -/
theorem filters : Cert.algebraic_Kernel6Ideal_Reference6Ideal := by
  pair_intro
  · run_from Cert.Kernel6Ideal.Gen.run_main m g
    all_goals first
      | exact Cert.Kernel6Ideal.Gen.V_main_arg0 m _
      | exact Cert.Kernel6Ideal.Gen.V_main_arg1 m _
      | exact Cert.Kernel6Ideal.Gen.V_main_arg2 m _
      | exact Cert.Kernel6Ideal.Gen.V_main_arg3 m _
      | exact Cert.Kernel6Ideal.Gen.V_main_arg4 m _
      | exact Cert.Kernel6Ideal.Gen.V_main_arg5 m _
      | exact Cert.Kernel6Ideal.Gen.V_main_arg6 m _
      | exact Cert.Kernel6Ideal.Gen.V_main_arg7 m _
  · refine (θ_run Cert.Reference6Ideal.defs _ _).mono (fun r h c => ?_) (Cert.Reference6Ideal.Value.run m' g')
    refine ⟨(h c).1.trans ?_, (h c).2⟩
    refine (Cert.Reference6Ideal.Filter.res_filter m' c).trans ?_
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact (Cert.Kernel6Ideal.Filter.final m c).symm

/-- The kernel is its idealization but for the mask's constant, which is minus infinity there. -/
theorem mask_named : Cert.preserves_Kernel_KernelIdeal :=
  IdealRules.named_const.statement Cert.KernelIdeal.κ "mask" .f32 0xF149F2CA#32 ⊥ rfl

/-- Everything that this directory claims. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    fun m ρ _ => Cert.Kernel6.Gen.frame m ρ, fun m ρ _ => Cert.Kernel6Ideal.Gen.frame m ρ, frame_reference6,
    mask_named, attention, trivial, in_proj, trivial, merge, trivial, final_norm, trivial, hyena, trivial, filters⟩

end Cert.Proof
